-- ==== Defs.lean ====
def Pre_Sketch (m : (ℓ : Loc Cert.Sketch.nD Cert.Sketch.τ Cert.Sketch.sig) → Buf (Elt Bits) ℓ) : Prop :=
  True

def Pre_SketchIdeal (m : (ℓ : Loc Cert.SketchIdeal.nD Cert.SketchIdeal.τ Cert.SketchIdeal.sig) → Buf (Elt Ideal) ℓ) : Prop :=
  True

def Pre_SketchReferenceIdeal (m : (ℓ : Loc Cert.SketchReferenceIdeal.nD Cert.SketchReferenceIdeal.τ Cert.SketchReferenceIdeal.sig) → Buf (Elt Ideal) ℓ) : Prop :=
  True

def Pre_Power (m : (ℓ : Loc Cert.Power.nD Cert.Power.τ Cert.Power.sig) → Buf (Elt Bits) ℓ) : Prop :=
  True

def Pre_PowerIdeal (m : (ℓ : Loc Cert.PowerIdeal.nD Cert.PowerIdeal.τ Cert.PowerIdeal.sig) → Buf (Elt Ideal) ℓ) : Prop :=
  True

def Pre_PowerReferenceIdeal (m : (ℓ : Loc Cert.PowerReferenceIdeal.nD Cert.PowerReferenceIdeal.τ Cert.PowerReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Invert (m : (ℓ : Loc Cert.Invert.nD Cert.Invert.τ Cert.Invert.sig) → Buf (Elt Bits) ℓ) : Prop :=
  True

def Pre_InvertIdeal (m : (ℓ : Loc Cert.InvertIdeal.nD Cert.InvertIdeal.τ Cert.InvertIdeal.sig) → Buf (Elt Ideal) ℓ) : Prop :=
  True

def Pre_InvertReferenceIdeal (m : (ℓ : Loc Cert.InvertReferenceIdeal.nD Cert.InvertReferenceIdeal.τ Cert.InvertReferenceIdeal.sig) → Buf (Elt Ideal) ℓ) : Prop :=
  True

def quiescent_Sketch [hSketch : Cert.Sketch.Facts] : Prop :=
  ∀ (m : (ℓ : Loc Cert.Sketch.nD Cert.Sketch.τ Cert.Sketch.sig) → Buf (Elt Bits) ℓ) (g : Dev Cert.Sketch.nD → PrngReg), Pre_Sketch m →
    θ_run (Cert.Sketch.defs (F := Bits)) (onTc (τ := Cert.Sketch.τ) (Cert.Sketch.main (F := Bits))) ⟨m, fun _ => 0, g⟩ (fun r => (∀ c : Dev Cert.Sketch.nD,
      r.2.mem ((c.tc : Thread Cert.Sketch.nD Cert.Sketch.τ).loc Cert.Sketch.main_arg0) = m ((c.tc : Thread Cert.Sketch.nD Cert.Sketch.τ).loc Cert.Sketch.main_arg0)
      ∧ r.2.mem ((c.tc : Thread Cert.Sketch.nD Cert.Sketch.τ).loc Cert.Sketch.main_arg1) = m ((c.tc : Thread Cert.Sketch.nD Cert.Sketch.τ).loc Cert.Sketch.main_arg1)
      ∧ r.2.mem ((c.tc : Thread Cert.Sketch.nD Cert.Sketch.τ).loc Cert.Sketch.main_arg2) = m ((c.tc : Thread Cert.Sketch.nD Cert.Sketch.τ).loc Cert.Sketch.main_arg2)
      ∧ r.2.mem ((c.tc : Thread Cert.Sketch.nD Cert.Sketch.τ).loc Cert.Sketch.main_arg3) = m ((c.tc : Thread Cert.Sketch.nD Cert.Sketch.τ).loc Cert.Sketch.main_arg3)
      ∧ r.2.mem ((c.tc : Thread Cert.Sketch.nD Cert.Sketch.τ).loc Cert.Sketch.main_arg4) = m ((c.tc : Thread Cert.Sketch.nD Cert.Sketch.τ).loc Cert.Sketch.main_arg4))
      ∧ r.2.sem = fun _ => 0)

def quiescent_SketchIdeal [hSketchIdeal : Cert.SketchIdeal.Facts] : Prop :=
  ∀ (m : (ℓ : Loc Cert.SketchIdeal.nD Cert.SketchIdeal.τ Cert.SketchIdeal.sig) → Buf (Elt Ideal) ℓ) (g : Dev Cert.SketchIdeal.nD → PrngReg), Pre_SketchIdeal m →
    θ_run (Cert.SketchIdeal.defs (F := Ideal)) (onTc (τ := Cert.SketchIdeal.τ) (Cert.SketchIdeal.main (F := Ideal))) ⟨m, fun _ => 0, g⟩ (fun r => (∀ c : Dev Cert.SketchIdeal.nD,
      r.2.mem ((c.tc : Thread Cert.SketchIdeal.nD Cert.SketchIdeal.τ).loc Cert.SketchIdeal.main_arg0) = m ((c.tc : Thread Cert.SketchIdeal.nD Cert.SketchIdeal.τ).loc Cert.SketchIdeal.main_arg0)
      ∧ r.2.mem ((c.tc : Thread Cert.SketchIdeal.nD Cert.SketchIdeal.τ).loc Cert.SketchIdeal.main_arg1) = m ((c.tc : Thread Cert.SketchIdeal.nD Cert.SketchIdeal.τ).loc Cert.SketchIdeal.main_arg1)
      ∧ r.2.mem ((c.tc : Thread Cert.SketchIdeal.nD Cert.SketchIdeal.τ).loc Cert.SketchIdeal.main_arg2) = m ((c.tc : Thread Cert.SketchIdeal.nD Cert.SketchIdeal.τ).loc Cert.SketchIdeal.main_arg2)
      ∧ r.2.mem ((c.tc : Thread Cert.SketchIdeal.nD Cert.SketchIdeal.τ).loc Cert.SketchIdeal.main_arg3) = m ((c.tc : Thread Cert.SketchIdeal.nD Cert.SketchIdeal.τ).loc Cert.SketchIdeal.main_arg3)
      ∧ r.2.mem ((c.tc : Thread Cert.SketchIdeal.nD Cert.SketchIdeal.τ).loc Cert.SketchIdeal.main_arg4) = m ((c.tc : Thread Cert.SketchIdeal.nD Cert.SketchIdeal.τ).loc Cert.SketchIdeal.main_arg4))
      ∧ r.2.sem = fun _ => 0)

def quiescent_SketchReferenceIdeal [hSketchReferenceIdeal : Cert.SketchReferenceIdeal.Facts] : Prop :=
  ∀ (m : (ℓ : Loc Cert.SketchReferenceIdeal.nD Cert.SketchReferenceIdeal.τ Cert.SketchReferenceIdeal.sig) → Buf (Elt Ideal) ℓ) (g : Dev Cert.SketchReferenceIdeal.nD → PrngReg), Pre_SketchReferenceIdeal m →
    θ_run (Cert.SketchReferenceIdeal.defs (F := Ideal)) (onTc (τ := Cert.SketchReferenceIdeal.τ) (Cert.SketchReferenceIdeal.main (F := Ideal))) ⟨m, fun _ => 0, g⟩ (fun r => (∀ c : Dev Cert.SketchReferenceIdeal.nD,
      r.2.mem ((c.tc : Thread Cert.SketchReferenceIdeal.nD Cert.SketchReferenceIdeal.τ).loc Cert.SketchReferenceIdeal.main_arg0) = m ((c.tc : Thread Cert.SketchReferenceIdeal.nD Cert.SketchReferenceIdeal.τ).loc Cert.SketchReferenceIdeal.main_arg0)
      ∧ r.2.mem ((c.tc : Thread Cert.SketchReferenceIdeal.nD Cert.SketchReferenceIdeal.τ).loc Cert.SketchReferenceIdeal.main_arg1) = m ((c.tc : Thread Cert.SketchReferenceIdeal.nD Cert.SketchReferenceIdeal.τ).loc Cert.SketchReferenceIdeal.main_arg1)
      ∧ r.2.mem ((c.tc : Thread Cert.SketchReferenceIdeal.nD Cert.SketchReferenceIdeal.τ).loc Cert.SketchReferenceIdeal.main_arg2) = m ((c.tc : Thread Cert.SketchReferenceIdeal.nD Cert.SketchReferenceIdeal.τ).loc Cert.SketchReferenceIdeal.main_arg2)
      ∧ r.2.mem ((c.tc : Thread Cert.SketchReferenceIdeal.nD Cert.SketchReferenceIdeal.τ).loc Cert.SketchReferenceIdeal.main_arg3) = m ((c.tc : Thread Cert.SketchReferenceIdeal.nD Cert.SketchReferenceIdeal.τ).loc Cert.SketchReferenceIdeal.main_arg3)
      ∧ r.2.mem ((c.tc : Thread Cert.SketchReferenceIdeal.nD Cert.SketchReferenceIdeal.τ).loc Cert.SketchReferenceIdeal.main_arg4) = m ((c.tc : Thread Cert.SketchReferenceIdeal.nD Cert.SketchReferenceIdeal.τ).loc Cert.SketchReferenceIdeal.main_arg4))
      ∧ r.2.sem = fun _ => 0)

def quiescent_Power [hPower : Cert.Power.Facts] : Prop :=
  ∀ (m : (ℓ : Loc Cert.Power.nD Cert.Power.τ Cert.Power.sig) → Buf (Elt Bits) ℓ) (g : Dev Cert.Power.nD → PrngReg), Pre_Power m →
    θ_run (Cert.Power.defs (F := Bits)) (onTc (τ := Cert.Power.τ) (Cert.Power.main (F := Bits))) ⟨m, fun _ => 0, g⟩ (fun r => (∀ c : Dev Cert.Power.nD,
      r.2.mem ((c.tc : Thread Cert.Power.nD Cert.Power.τ).loc Cert.Power.main_arg0) = m ((c.tc : Thread Cert.Power.nD Cert.Power.τ).loc Cert.Power.main_arg0)
      ∧ r.2.mem ((c.tc : Thread Cert.Power.nD Cert.Power.τ).loc Cert.Power.main_arg1) = m ((c.tc : Thread Cert.Power.nD Cert.Power.τ).loc Cert.Power.main_arg1)
      ∧ r.2.mem ((c.tc : Thread Cert.Power.nD Cert.Power.τ).loc Cert.Power.main_arg2) = m ((c.tc : Thread Cert.Power.nD Cert.Power.τ).loc Cert.Power.main_arg2)
      ∧ r.2.mem ((c.tc : Thread Cert.Power.nD Cert.Power.τ).loc Cert.Power.main_arg3) = m ((c.tc : Thread Cert.Power.nD Cert.Power.τ).loc Cert.Power.main_arg3)
      ∧ r.2.mem ((c.tc : Thread Cert.Power.nD Cert.Power.τ).loc Cert.Power.main_arg4) = m ((c.tc : Thread Cert.Power.nD Cert.Power.τ).loc Cert.Power.main_arg4)
      ∧ r.2.mem ((c.tc : Thread Cert.Power.nD Cert.Power.τ).loc Cert.Power.main_arg5) = m ((c.tc : Thread Cert.Power.nD Cert.Power.τ).loc Cert.Power.main_arg5))
      ∧ r.2.sem = fun _ => 0)

def quiescent_PowerIdeal [hPowerIdeal : Cert.PowerIdeal.Facts] : Prop :=
  ∀ (m : (ℓ : Loc Cert.PowerIdeal.nD Cert.PowerIdeal.τ Cert.PowerIdeal.sig) → Buf (Elt Ideal) ℓ) (g : Dev Cert.PowerIdeal.nD → PrngReg), Pre_PowerIdeal m →
    θ_run (Cert.PowerIdeal.defs (F := Ideal)) (onTc (τ := Cert.PowerIdeal.τ) (Cert.PowerIdeal.main (F := Ideal))) ⟨m, fun _ => 0, g⟩ (fun r => (∀ c : Dev Cert.PowerIdeal.nD,
      r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
      ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
      ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
      ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3)
      ∧ r.2.mem ((c.tc : Thread Cert.PowerIdeal.nD Cert.PowerIdeal.τ).loc Cert.PowerIdeal.main_arg4) = m ((c.tc : Thread Cert.PowerIdeal.nD Cert.PowerIdeal.τ).loc Cert.PowerIdeal.main_arg4)
      ∧ r.2.mem ((c.tc : Thread Cert.PowerIdeal.nD Cert.PowerIdeal.τ).loc Cert.PowerIdeal.main_arg5) = m ((c.tc : Thread Cert.PowerIdeal.nD Cert.PowerIdeal.τ).loc Cert.PowerIdeal.main_arg5))
      ∧ r.2.sem = fun _ => 0)

def quiescent_PowerReferenceIdeal [hPowerReferenceIdeal : Cert.PowerReferenceIdeal.Facts] : Prop :=
  ∀ (m : (ℓ : Loc Cert.PowerReferenceIdeal.nD Cert.PowerReferenceIdeal.τ Cert.PowerReferenceIdeal.sig) → Buf (Elt Ideal) ℓ) (g : Dev Cert.PowerReferenceIdeal.nD → PrngReg), Pre_PowerReferenceIdeal m →
    θ_run (Cert.PowerReferenceIdeal.defs (F := Ideal)) (onTc (τ := Cert.PowerReferenceIdeal.τ) (Cert.PowerReferenceIdeal.main (F := Ideal))) ⟨m, fun _ => 0, g⟩ (fun r => (∀ c : Dev Cert.PowerReferenceIdeal.nD,
      r.2.mem ((c.tc : Thread Cert.PowerReferenceIdeal.nD Cert.PowerReferenceIdeal.τ).loc Cert.PowerReferenceIdeal.main_arg0) = m ((c.tc : Thread Cert.PowerReferenceIdeal.nD Cert.PowerReferenceIdeal.τ).loc Cert.PowerReferenceIdeal.main_arg0)
      ∧ r.2.mem ((c.tc : Thread Cert.PowerReferenceIdeal.nD Cert.PowerReferenceIdeal.τ).loc Cert.PowerReferenceIdeal.main_arg1) = m ((c.tc : Thread Cert.PowerReferenceIdeal.nD Cert.PowerReferenceIdeal.τ).loc Cert.PowerReferenceIdeal.main_arg1)
      ∧ r.2.mem ((c.tc : Thread Cert.PowerReferenceIdeal.nD Cert.PowerReferenceIdeal.τ).loc Cert.PowerReferenceIdeal.main_arg2) = m ((c.tc : Thread Cert.PowerReferenceIdeal.nD Cert.PowerReferenceIdeal.τ).loc Cert.PowerReferenceIdeal.main_arg2)
      ∧ r.2.mem ((c.tc : Thread Cert.PowerReferenceIdeal.nD Cert.PowerReferenceIdeal.τ).loc Cert.PowerReferenceIdeal.main_arg3) = m ((c.tc : Thread Cert.PowerReferenceIdeal.nD Cert.PowerReferenceIdeal.τ).loc Cert.PowerReferenceIdeal.main_arg3)
      ∧ r.2.mem ((c.tc : Thread Cert.PowerReferenceIdeal.nD Cert.PowerReferenceIdeal.τ).loc Cert.PowerReferenceIdeal.main_arg4) = m ((c.tc : Thread Cert.PowerReferenceIdeal.nD Cert.PowerReferenceIdeal.τ).loc Cert.PowerReferenceIdeal.main_arg4)
      ∧ r.2.mem ((c.tc : Thread Cert.PowerReferenceIdeal.nD Cert.PowerReferenceIdeal.τ).loc Cert.PowerReferenceIdeal.main_arg5) = m ((c.tc : Thread Cert.PowerReferenceIdeal.nD Cert.PowerReferenceIdeal.τ).loc Cert.PowerReferenceIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def quiescent_Invert [hInvert : Cert.Invert.Facts] : Prop :=
  ∀ (m : (ℓ : Loc Cert.Invert.nD Cert.Invert.τ Cert.Invert.sig) → Buf (Elt Bits) ℓ) (g : Dev Cert.Invert.nD → PrngReg), Pre_Invert m →
    θ_run (Cert.Invert.defs (F := Bits)) (onTc (τ := Cert.Invert.τ) (Cert.Invert.main (F := Bits))) ⟨m, fun _ => 0, g⟩ (fun r => (∀ c : Dev Cert.Invert.nD,
      r.2.mem ((c.tc : Thread Cert.Invert.nD Cert.Invert.τ).loc Cert.Invert.main_arg0) = m ((c.tc : Thread Cert.Invert.nD Cert.Invert.τ).loc Cert.Invert.main_arg0))
      ∧ r.2.sem = fun _ => 0)

def quiescent_InvertIdeal [hInvertIdeal : Cert.InvertIdeal.Facts] : Prop :=
  ∀ (m : (ℓ : Loc Cert.InvertIdeal.nD Cert.InvertIdeal.τ Cert.InvertIdeal.sig) → Buf (Elt Ideal) ℓ) (g : Dev Cert.InvertIdeal.nD → PrngReg), Pre_InvertIdeal m →
    θ_run (Cert.InvertIdeal.defs (F := Ideal)) (onTc (τ := Cert.InvertIdeal.τ) (Cert.InvertIdeal.main (F := Ideal))) ⟨m, fun _ => 0, g⟩ (fun r => (∀ c : Dev Cert.InvertIdeal.nD,
      r.2.mem ((c.tc : Thread Cert.InvertIdeal.nD Cert.InvertIdeal.τ).loc Cert.InvertIdeal.main_arg0) = m ((c.tc : Thread Cert.InvertIdeal.nD Cert.InvertIdeal.τ).loc Cert.InvertIdeal.main_arg0))
      ∧ r.2.sem = fun _ => 0)

def quiescent_InvertReferenceIdeal [hInvertReferenceIdeal : Cert.InvertReferenceIdeal.Facts] : Prop :=
  ∀ (m : (ℓ : Loc Cert.InvertReferenceIdeal.nD Cert.InvertReferenceIdeal.τ Cert.InvertReferenceIdeal.sig) → Buf (Elt Ideal) ℓ) (g : Dev Cert.InvertReferenceIdeal.nD → PrngReg), Pre_InvertReferenceIdeal m →
    θ_run (Cert.InvertReferenceIdeal.defs (F := Ideal)) (onTc (τ := Cert.InvertReferenceIdeal.τ) (Cert.InvertReferenceIdeal.main (F := Ideal))) ⟨m, fun _ => 0, g⟩ (fun r => (∀ c : Dev Cert.InvertReferenceIdeal.nD,
      r.2.mem ((c.tc : Thread Cert.InvertReferenceIdeal.nD Cert.InvertReferenceIdeal.τ).loc Cert.InvertReferenceIdeal.main_arg0) = m ((c.tc : Thread Cert.InvertReferenceIdeal.nD Cert.InvertReferenceIdeal.τ).loc Cert.InvertReferenceIdeal.main_arg0))
      ∧ r.2.sem = fun _ => 0)

def preserves_Sketch_SketchIdeal : Prop :=
  True

def algebraic_SketchIdeal_SketchReferenceIdeal [hSketchIdeal : Cert.SketchIdeal.Facts] [hSketchReferenceIdeal : Cert.SketchReferenceIdeal.Facts] : Prop :=
  ∀ (m : (ℓ : Loc Cert.SketchIdeal.nD Cert.SketchIdeal.τ Cert.SketchIdeal.sig) → Buf (Elt Ideal) ℓ) (g : Dev Cert.SketchIdeal.nD → PrngReg)
    (m' : (ℓ : Loc Cert.SketchReferenceIdeal.nD Cert.SketchReferenceIdeal.τ Cert.SketchReferenceIdeal.sig) → Buf (Elt Ideal) ℓ) (g' : Dev Cert.SketchReferenceIdeal.nD → PrngReg), Pre_SketchIdeal m →
    (∀ c : Dev Cert.SketchIdeal.nD,
      m' ((c.tc : Thread Cert.SketchReferenceIdeal.nD Cert.SketchReferenceIdeal.τ).loc Cert.SketchReferenceIdeal.main_arg0) = m ((c.tc : Thread Cert.SketchIdeal.nD Cert.SketchIdeal.τ).loc Cert.SketchIdeal.main_arg0)
      ∧ m' ((c.tc : Thread Cert.SketchReferenceIdeal.nD Cert.SketchReferenceIdeal.τ).loc Cert.SketchReferenceIdeal.main_arg1) = m ((c.tc : Thread Cert.SketchIdeal.nD Cert.SketchIdeal.τ).loc Cert.SketchIdeal.main_arg1)
      ∧ m' ((c.tc : Thread Cert.SketchReferenceIdeal.nD Cert.SketchReferenceIdeal.τ).loc Cert.SketchReferenceIdeal.main_arg2) = m ((c.tc : Thread Cert.SketchIdeal.nD Cert.SketchIdeal.τ).loc Cert.SketchIdeal.main_arg2)
      ∧ m' ((c.tc : Thread Cert.SketchReferenceIdeal.nD Cert.SketchReferenceIdeal.τ).loc Cert.SketchReferenceIdeal.main_arg3) = m ((c.tc : Thread Cert.SketchIdeal.nD Cert.SketchIdeal.τ).loc Cert.SketchIdeal.main_arg3)
      ∧ m' ((c.tc : Thread Cert.SketchReferenceIdeal.nD Cert.SketchReferenceIdeal.τ).loc Cert.SketchReferenceIdeal.main_arg4) = m ((c.tc : Thread Cert.SketchIdeal.nD Cert.SketchIdeal.τ).loc Cert.SketchIdeal.main_arg4)) →
    ∃ (v0 : (c : Dev Cert.SketchIdeal.nD) → Buf (Elt Ideal) ((c.tc : Thread Cert.SketchIdeal.nD Cert.SketchIdeal.τ).loc Cert.SketchIdeal.main_v8_0)) (v1 : (c : Dev Cert.SketchIdeal.nD) → Buf (Elt Ideal) ((c.tc : Thread Cert.SketchIdeal.nD Cert.SketchIdeal.τ).loc Cert.SketchIdeal.main_v8_1)),
      θ_run (Cert.SketchIdeal.defs (F := Ideal)) (onTc (τ := Cert.SketchIdeal.τ) (Cert.SketchIdeal.main (F := Ideal))) ⟨m, fun _ => 0, g⟩ (fun r => ∀ c : Dev Cert.SketchIdeal.nD,
          r.2.mem ((c.tc : Thread Cert.SketchIdeal.nD Cert.SketchIdeal.τ).loc Cert.SketchIdeal.main_v8_0) = v0 c
          ∧ r.2.mem ((c.tc : Thread Cert.SketchIdeal.nD Cert.SketchIdeal.τ).loc Cert.SketchIdeal.main_v8_1) = v1 c
          ∧ r.2.mem ((c.tc : Thread Cert.SketchIdeal.nD Cert.SketchIdeal.τ).loc Cert.SketchIdeal.main_arg0) = m ((c.tc : Thread Cert.SketchIdeal.nD Cert.SketchIdeal.τ).loc Cert.SketchIdeal.main_arg0)
          ∧ r.2.mem ((c.tc : Thread Cert.SketchIdeal.nD Cert.SketchIdeal.τ).loc Cert.SketchIdeal.main_arg1) = m ((c.tc : Thread Cert.SketchIdeal.nD Cert.SketchIdeal.τ).loc Cert.SketchIdeal.main_arg1)
          ∧ r.2.mem ((c.tc : Thread Cert.SketchIdeal.nD Cert.SketchIdeal.τ).loc Cert.SketchIdeal.main_arg2) = m ((c.tc : Thread Cert.SketchIdeal.nD Cert.SketchIdeal.τ).loc Cert.SketchIdeal.main_arg2)
          ∧ r.2.mem ((c.tc : Thread Cert.SketchIdeal.nD Cert.SketchIdeal.τ).loc Cert.SketchIdeal.main_arg3) = m ((c.tc : Thread Cert.SketchIdeal.nD Cert.SketchIdeal.τ).loc Cert.SketchIdeal.main_arg3)
          ∧ r.2.mem ((c.tc : Thread Cert.SketchIdeal.nD Cert.SketchIdeal.τ).loc Cert.SketchIdeal.main_arg4) = m ((c.tc : Thread Cert.SketchIdeal.nD Cert.SketchIdeal.τ).loc Cert.SketchIdeal.main_arg4))
      ∧ θ_run (Cert.SketchReferenceIdeal.defs (F := Ideal)) (onTc (τ := Cert.SketchReferenceIdeal.τ) (Cert.SketchReferenceIdeal.main (F := Ideal))) ⟨m', fun _ => 0, g'⟩ (fun r => ∀ c : Dev Cert.SketchReferenceIdeal.nD,
          r.2.mem ((c.tc : Thread Cert.SketchReferenceIdeal.nD Cert.SketchReferenceIdeal.τ).loc Cert.SketchReferenceIdeal.main_v8_0) = v0 c
          ∧ r.2.mem ((c.tc : Thread Cert.SketchReferenceIdeal.nD Cert.SketchReferenceIdeal.τ).loc Cert.SketchReferenceIdeal.main_v8_1) = v1 c
          ∧ r.2.mem ((c.tc : Thread Cert.SketchReferenceIdeal.nD Cert.SketchReferenceIdeal.τ).loc Cert.SketchReferenceIdeal.main_arg0) = m' ((c.tc : Thread Cert.SketchReferenceIdeal.nD Cert.SketchReferenceIdeal.τ).loc Cert.SketchReferenceIdeal.main_arg0)
          ∧ r.2.mem ((c.tc : Thread Cert.SketchReferenceIdeal.nD Cert.SketchReferenceIdeal.τ).loc Cert.SketchReferenceIdeal.main_arg1) = m' ((c.tc : Thread Cert.SketchReferenceIdeal.nD Cert.SketchReferenceIdeal.τ).loc Cert.SketchReferenceIdeal.main_arg1)
          ∧ r.2.mem ((c.tc : Thread Cert.SketchReferenceIdeal.nD Cert.SketchReferenceIdeal.τ).loc Cert.SketchReferenceIdeal.main_arg2) = m' ((c.tc : Thread Cert.SketchReferenceIdeal.nD Cert.SketchReferenceIdeal.τ).loc Cert.SketchReferenceIdeal.main_arg2)
          ∧ r.2.mem ((c.tc : Thread Cert.SketchReferenceIdeal.nD Cert.SketchReferenceIdeal.τ).loc Cert.SketchReferenceIdeal.main_arg3) = m' ((c.tc : Thread Cert.SketchReferenceIdeal.nD Cert.SketchReferenceIdeal.τ).loc Cert.SketchReferenceIdeal.main_arg3)
          ∧ r.2.mem ((c.tc : Thread Cert.SketchReferenceIdeal.nD Cert.SketchReferenceIdeal.τ).loc Cert.SketchReferenceIdeal.main_arg4) = m' ((c.tc : Thread Cert.SketchReferenceIdeal.nD Cert.SketchReferenceIdeal.τ).loc Cert.SketchReferenceIdeal.main_arg4))

def preserves_Power_PowerIdeal : Prop :=
  True

def algebraic_PowerIdeal_PowerReferenceIdeal [hPowerIdeal : Cert.PowerIdeal.Facts] [hPowerReferenceIdeal : Cert.PowerReferenceIdeal.Facts] : Prop :=
  ∀ (m : (ℓ : Loc Cert.PowerIdeal.nD Cert.PowerIdeal.τ Cert.PowerIdeal.sig) → Buf (Elt Ideal) ℓ) (g : Dev Cert.PowerIdeal.nD → PrngReg)
    (m' : (ℓ : Loc Cert.PowerReferenceIdeal.nD Cert.PowerReferenceIdeal.τ Cert.PowerReferenceIdeal.sig) → Buf (Elt Ideal) ℓ) (g' : Dev Cert.PowerReferenceIdeal.nD → PrngReg), Pre_PowerIdeal m →
    (∀ c : Dev Cert.PowerIdeal.nD,
      m' ((c.tc : Thread Cert.PowerReferenceIdeal.nD Cert.PowerReferenceIdeal.τ).loc Cert.PowerReferenceIdeal.main_arg0) = m ((c.tc : Thread Cert.PowerIdeal.nD Cert.PowerIdeal.τ).loc Cert.PowerIdeal.main_arg0)
      ∧ m' ((c.tc : Thread Cert.PowerReferenceIdeal.nD Cert.PowerReferenceIdeal.τ).loc Cert.PowerReferenceIdeal.main_arg1) = m ((c.tc : Thread Cert.PowerIdeal.nD Cert.PowerIdeal.τ).loc Cert.PowerIdeal.main_arg1)
      ∧ m' ((c.tc : Thread Cert.PowerReferenceIdeal.nD Cert.PowerReferenceIdeal.τ).loc Cert.PowerReferenceIdeal.main_arg2) = m ((c.tc : Thread Cert.PowerIdeal.nD Cert.PowerIdeal.τ).loc Cert.PowerIdeal.main_arg2)
      ∧ m' ((c.tc : Thread Cert.PowerReferenceIdeal.nD Cert.PowerReferenceIdeal.τ).loc Cert.PowerReferenceIdeal.main_arg3) = m ((c.tc : Thread Cert.PowerIdeal.nD Cert.PowerIdeal.τ).loc Cert.PowerIdeal.main_arg3)
      ∧ m' ((c.tc : Thread Cert.PowerReferenceIdeal.nD Cert.PowerReferenceIdeal.τ).loc Cert.PowerReferenceIdeal.main_arg4) = m ((c.tc : Thread Cert.PowerIdeal.nD Cert.PowerIdeal.τ).loc Cert.PowerIdeal.main_arg4)
      ∧ m' ((c.tc : Thread Cert.PowerReferenceIdeal.nD Cert.PowerReferenceIdeal.τ).loc Cert.PowerReferenceIdeal.main_arg5) = m ((c.tc : Thread Cert.PowerIdeal.nD Cert.PowerIdeal.τ).loc Cert.PowerIdeal.main_arg5)) →
    ∃ (v0 : (c : Dev Cert.PowerIdeal.nD) → Buf (Elt Ideal) ((c.tc : Thread Cert.PowerIdeal.nD Cert.PowerIdeal.τ).loc Cert.PowerIdeal.main_v8)) (v1 : (c : Dev Cert.PowerIdeal.nD) → Buf (Elt Ideal) ((c.tc : Thread Cert.PowerIdeal.nD Cert.PowerIdeal.τ).loc Cert.PowerIdeal.main_v7_1)) (v2 : (c : Dev Cert.PowerIdeal.nD) → Buf (Elt Ideal) ((c.tc : Thread Cert.PowerIdeal.nD Cert.PowerIdeal.τ).loc Cert.PowerIdeal.main_v7_2)),
      θ_run (Cert.PowerIdeal.defs (F := Ideal)) (onTc (τ := Cert.PowerIdeal.τ) (Cert.PowerIdeal.main (F := Ideal))) ⟨m, fun _ => 0, g⟩ (fun r => ∀ c : Dev Cert.PowerIdeal.nD,
          r.2.mem ((c.tc : Thread Cert.PowerIdeal.nD Cert.PowerIdeal.τ).loc Cert.PowerIdeal.main_v8) = v0 c
          ∧ r.2.mem ((c.tc : Thread Cert.PowerIdeal.nD Cert.PowerIdeal.τ).loc Cert.PowerIdeal.main_v7_1) = v1 c
          ∧ r.2.mem ((c.tc : Thread Cert.PowerIdeal.nD Cert.PowerIdeal.τ).loc Cert.PowerIdeal.main_v7_2) = v2 c
          ∧ r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
          ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
          ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
          ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3)
          ∧ r.2.mem ((c.tc : Thread Cert.PowerIdeal.nD Cert.PowerIdeal.τ).loc Cert.PowerIdeal.main_arg4) = m ((c.tc : Thread Cert.PowerIdeal.nD Cert.PowerIdeal.τ).loc Cert.PowerIdeal.main_arg4)
          ∧ r.2.mem ((c.tc : Thread Cert.PowerIdeal.nD Cert.PowerIdeal.τ).loc Cert.PowerIdeal.main_arg5) = m ((c.tc : Thread Cert.PowerIdeal.nD Cert.PowerIdeal.τ).loc Cert.PowerIdeal.main_arg5))
      ∧ θ_run (Cert.PowerReferenceIdeal.defs (F := Ideal)) (onTc (τ := Cert.PowerReferenceIdeal.τ) (Cert.PowerReferenceIdeal.main (F := Ideal))) ⟨m', fun _ => 0, g'⟩ (fun r => ∀ c : Dev Cert.PowerReferenceIdeal.nD,
          r.2.mem ((c.tc : Thread Cert.PowerReferenceIdeal.nD Cert.PowerReferenceIdeal.τ).loc Cert.PowerReferenceIdeal.main_v8_0) = v0 c
          ∧ r.2.mem ((c.tc : Thread Cert.PowerReferenceIdeal.nD Cert.PowerReferenceIdeal.τ).loc Cert.PowerReferenceIdeal.main_v8_1) = v1 c
          ∧ r.2.mem ((c.tc : Thread Cert.PowerReferenceIdeal.nD Cert.PowerReferenceIdeal.τ).loc Cert.PowerReferenceIdeal.main_v8_2) = v2 c
          ∧ r.2.mem ((c.tc : Thread Cert.PowerReferenceIdeal.nD Cert.PowerReferenceIdeal.τ).loc Cert.PowerReferenceIdeal.main_arg0) = m' ((c.tc : Thread Cert.PowerReferenceIdeal.nD Cert.PowerReferenceIdeal.τ).loc Cert.PowerReferenceIdeal.main_arg0)
          ∧ r.2.mem ((c.tc : Thread Cert.PowerReferenceIdeal.nD Cert.PowerReferenceIdeal.τ).loc Cert.PowerReferenceIdeal.main_arg1) = m' ((c.tc : Thread Cert.PowerReferenceIdeal.nD Cert.PowerReferenceIdeal.τ).loc Cert.PowerReferenceIdeal.main_arg1)
          ∧ r.2.mem ((c.tc : Thread Cert.PowerReferenceIdeal.nD Cert.PowerReferenceIdeal.τ).loc Cert.PowerReferenceIdeal.main_arg2) = m' ((c.tc : Thread Cert.PowerReferenceIdeal.nD Cert.PowerReferenceIdeal.τ).loc Cert.PowerReferenceIdeal.main_arg2)
          ∧ r.2.mem ((c.tc : Thread Cert.PowerReferenceIdeal.nD Cert.PowerReferenceIdeal.τ).loc Cert.PowerReferenceIdeal.main_arg3) = m' ((c.tc : Thread Cert.PowerReferenceIdeal.nD Cert.PowerReferenceIdeal.τ).loc Cert.PowerReferenceIdeal.main_arg3)
          ∧ r.2.mem ((c.tc : Thread Cert.PowerReferenceIdeal.nD Cert.PowerReferenceIdeal.τ).loc Cert.PowerReferenceIdeal.main_arg4) = m' ((c.tc : Thread Cert.PowerReferenceIdeal.nD Cert.PowerReferenceIdeal.τ).loc Cert.PowerReferenceIdeal.main_arg4)
          ∧ r.2.mem ((c.tc : Thread Cert.PowerReferenceIdeal.nD Cert.PowerReferenceIdeal.τ).loc Cert.PowerReferenceIdeal.main_arg5) = m' ((c.tc : Thread Cert.PowerReferenceIdeal.nD Cert.PowerReferenceIdeal.τ).loc Cert.PowerReferenceIdeal.main_arg5))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v8)) (v1 : (c : Dev Cert.ProjectIdeal.nD) → Buf (Elt Ideal) ((c.tc : Thread Cert.ProjectIdeal.nD Cert.ProjectIdeal.τ).loc Cert.ProjectIdeal.main_v7_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v8) = v0 c
          ∧ r.2.mem ((c.tc : Thread Cert.ProjectIdeal.nD Cert.ProjectIdeal.τ).loc Cert.ProjectIdeal.main_v7_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v8_0) = v0 c
          ∧ r.2.mem ((c.tc : Thread Cert.ProjectReferenceIdeal.nD Cert.ProjectReferenceIdeal.τ).loc Cert.ProjectReferenceIdeal.main_v8_1) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def preserves_Invert_InvertIdeal : Prop :=
  True

def algebraic_InvertIdeal_InvertReferenceIdeal [hInvertIdeal : Cert.InvertIdeal.Facts] [hInvertReferenceIdeal : Cert.InvertReferenceIdeal.Facts] : Prop :=
  ∀ (m : (ℓ : Loc Cert.InvertIdeal.nD Cert.InvertIdeal.τ Cert.InvertIdeal.sig) → Buf (Elt Ideal) ℓ) (g : Dev Cert.InvertIdeal.nD → PrngReg)
    (m' : (ℓ : Loc Cert.InvertReferenceIdeal.nD Cert.InvertReferenceIdeal.τ Cert.InvertReferenceIdeal.sig) → Buf (Elt Ideal) ℓ) (g' : Dev Cert.InvertReferenceIdeal.nD → PrngReg), Pre_InvertIdeal m →
    (∀ c : Dev Cert.InvertIdeal.nD,
      m' ((c.tc : Thread Cert.InvertReferenceIdeal.nD Cert.InvertReferenceIdeal.τ).loc Cert.InvertReferenceIdeal.main_arg0) = m ((c.tc : Thread Cert.InvertIdeal.nD Cert.InvertIdeal.τ).loc Cert.InvertIdeal.main_arg0)) →
    ∃ (v0 : (c : Dev Cert.InvertIdeal.nD) → Buf (Elt Ideal) ((c.tc : Thread Cert.InvertIdeal.nD Cert.InvertIdeal.τ).loc Cert.InvertIdeal.main_v11)),
      θ_run (Cert.InvertIdeal.defs (F := Ideal)) (onTc (τ := Cert.InvertIdeal.τ) (Cert.InvertIdeal.main (F := Ideal))) ⟨m, fun _ => 0, g⟩ (fun r => ∀ c : Dev Cert.InvertIdeal.nD,
          r.2.mem ((c.tc : Thread Cert.InvertIdeal.nD Cert.InvertIdeal.τ).loc Cert.InvertIdeal.main_v11) = v0 c
          ∧ r.2.mem ((c.tc : Thread Cert.InvertIdeal.nD Cert.InvertIdeal.τ).loc Cert.InvertIdeal.main_arg0) = m ((c.tc : Thread Cert.InvertIdeal.nD Cert.InvertIdeal.τ).loc Cert.InvertIdeal.main_arg0))
      ∧ θ_run (Cert.InvertReferenceIdeal.defs (F := Ideal)) (onTc (τ := Cert.InvertReferenceIdeal.τ) (Cert.InvertReferenceIdeal.main (F := Ideal))) ⟨m', fun _ => 0, g'⟩ (fun r => ∀ c : Dev Cert.InvertReferenceIdeal.nD,
          r.2.mem ((c.tc : Thread Cert.InvertReferenceIdeal.nD Cert.InvertReferenceIdeal.τ).loc Cert.InvertReferenceIdeal.main_v0) = v0 c
          ∧ r.2.mem ((c.tc : Thread Cert.InvertReferenceIdeal.nD Cert.InvertReferenceIdeal.τ).loc Cert.InvertReferenceIdeal.main_arg0) = m' ((c.tc : Thread Cert.InvertReferenceIdeal.nD Cert.InvertReferenceIdeal.τ).loc Cert.InvertReferenceIdeal.main_arg0))

def Claim : Prop :=
  ∃ (hSketch : Cert.Sketch.Facts) (hSketchIdeal : Cert.SketchIdeal.Facts) (hSketchReferenceIdeal : Cert.SketchReferenceIdeal.Facts) (hPower : Cert.Power.Facts) (hPowerIdeal : Cert.PowerIdeal.Facts) (hPowerReferenceIdeal : Cert.PowerReferenceIdeal.Facts) (hProject : Cert.Project.Facts) (hProjectIdeal : Cert.ProjectIdeal.Facts) (hProjectReferenceIdeal : Cert.ProjectReferenceIdeal.Facts) (hInvert : Cert.Invert.Facts) (hInvertIdeal : Cert.InvertIdeal.Facts) (hInvertReferenceIdeal : Cert.InvertReferenceIdeal.Facts),
    quiescent_Sketch (hSketch := hSketch)
    ∧ quiescent_SketchIdeal (hSketchIdeal := hSketchIdeal)
    ∧ quiescent_SketchReferenceIdeal (hSketchReferenceIdeal := hSketchReferenceIdeal)
    ∧ quiescent_Power (hPower := hPower)
    ∧ quiescent_PowerIdeal (hPowerIdeal := hPowerIdeal)
    ∧ quiescent_PowerReferenceIdeal (hPowerReferenceIdeal := hPowerReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Invert (hInvert := hInvert)
    ∧ quiescent_InvertIdeal (hInvertIdeal := hInvertIdeal)
    ∧ quiescent_InvertReferenceIdeal (hInvertReferenceIdeal := hInvertReferenceIdeal)
    ∧ preserves_Sketch_SketchIdeal
    ∧ algebraic_SketchIdeal_SketchReferenceIdeal (hSketchIdeal := hSketchIdeal) (hSketchReferenceIdeal := hSketchReferenceIdeal)
    ∧ preserves_Power_PowerIdeal
    ∧ algebraic_PowerIdeal_PowerReferenceIdeal (hPowerIdeal := hPowerIdeal) (hPowerReferenceIdeal := hPowerReferenceIdeal)
    ∧ preserves_Project_ProjectIdeal
    ∧ algebraic_ProjectIdeal_ProjectReferenceIdeal (hProjectIdeal := hProjectIdeal) (hProjectReferenceIdeal := hProjectReferenceIdeal)
    ∧ preserves_Invert_InvertIdeal
    ∧ algebraic_InvertIdeal_InvertReferenceIdeal (hInvertIdeal := hInvertIdeal) (hInvertReferenceIdeal := hInvertReferenceIdeal)
-- ==== Sketch.lean ====
abbrev S60x2048x1408 : Shape := ⟨3, ![60, 2048, 1408]⟩
abbrev S60x16x11 : Shape := ⟨3, ![60, 16, 11]⟩
abbrev S60x2048x72 : Shape := ⟨3, ![60, 2048, 72]⟩
abbrev S60x176 : Shape := ⟨2, ![60, 176]⟩
abbrev S60x1x176 : Shape := ⟨3, ![60, 1, 176]⟩
abbrev S60x2x176 : Shape := ⟨3, ![60, 2, 176]⟩
abbrev S60x72x2048 : Shape := ⟨3, ![60, 72, 2048]⟩
abbrev S60x72x1408 : Shape := ⟨3, ![60, 72, 1408]⟩
abbrev S60x72x72 : Shape := ⟨3, ![60, 72, 72]⟩
abbrev S1x2x176 : Shape := ⟨3, ![1, 2, 176]⟩
abbrev S1x2048x1408 : Shape := ⟨3, ![1, 2048, 1408]⟩
abbrev S1x72x2048 : Shape := ⟨3, ![1, 72, 2048]⟩
abbrev S1x72x1408 : Shape := ⟨3, ![1, 72, 1408]⟩
abbrev S1x72x72 : Shape := ⟨3, ![1, 72, 72]⟩
abbrev S72x2048 : Shape := ⟨2, ![72, 2048]⟩
abbrev S72x128 : Shape := ⟨2, ![72, 128]⟩
abbrev S1x1x1 : Shape := ⟨3, ![1, 1, 1]⟩
abbrev S144x2048 : Shape := ⟨2, ![144, 2048]⟩
abbrev S1x2048x256 : Shape := ⟨3, ![1, 2048, 256]⟩
abbrev S2048x256 : Shape := ⟨2, ![2048, 256]⟩
abbrev S144x256 : Shape := ⟨2, ![144, 256]⟩
abbrev S1x72x128 : Shape := ⟨3, ![1, 72, 128]⟩
abbrev S1x2048x128 : Shape := ⟨3, ![1, 2048, 128]⟩
abbrev S2048x128 : Shape := ⟨2, ![2048, 128]⟩
abbrev S72x1408 : Shape := ⟨2, ![72, 1408]⟩
abbrev S72x72 : Shape := ⟨2, ![72, 72]⟩

abbrev nBuf : Space → Nat
  | .hbm => 15
  | .vmem => 10
  | .smem => 2
  | _ => 0

abbrev bufTy : (tb : Table) → Fin (tcTables nBuf tb) → BufTy
  | .hbm, ⟨0, _⟩ => ⟨S60x2048x1408, .fp8e4m3⟩
  | .hbm, ⟨1, _⟩ => ⟨S60x16x11, .f32⟩
  | .hbm, ⟨2, _⟩ => ⟨S60x2048x1408, .fp8e4m3⟩
  | .hbm, ⟨3, _⟩ => ⟨S60x16x11, .f32⟩
  | .hbm, ⟨4, _⟩ => ⟨S60x2048x72, .bf16⟩
  | .hbm, ⟨5, _⟩ => ⟨S60x176, .f32⟩
  | .hbm, ⟨6, _⟩ => ⟨S60x176, .f32⟩
  | .hbm, ⟨7, _⟩ => ⟨S60x1x176, .f32⟩
  | .hbm, ⟨8, _⟩ => ⟨S60x1x176, .f32⟩
  | .hbm, ⟨9, _⟩ => ⟨S60x2x176, .f32⟩
  | .hbm, ⟨10, _⟩ => ⟨S60x2x176, .bf16⟩
  | .hbm, ⟨11, _⟩ => ⟨S60x2x176, .f32⟩
  | .hbm, ⟨12, _⟩ => ⟨S60x72x2048, .bf16⟩
  | .hbm, ⟨13, _⟩ => ⟨S60x72x1408, .f32⟩
  | .hbm, ⟨14, _⟩ => ⟨S60x72x72, .f32⟩
  | .local _ .vmem, ⟨0, _⟩ => ⟨S1x2048x1408, .fp8e4m3⟩
  | .local _ .vmem, ⟨1, _⟩ => ⟨S1x2048x1408, .fp8e4m3⟩
  | .local _ .vmem, ⟨2, _⟩ => ⟨S1x2048x1408, .fp8e4m3⟩
  | .local _ .vmem, ⟨3, _⟩ => ⟨S1x2048x1408, .fp8e4m3⟩
  | .local _ .vmem, ⟨4, _⟩ => ⟨S1x72x2048, .bf16⟩
  | .local _ .vmem, ⟨5, _⟩ => ⟨S1x72x2048, .bf16⟩
  | .local _ .vmem, ⟨6, _⟩ => ⟨S1x72x1408, .f32⟩
  | .local _ .vmem, ⟨7, _⟩ => ⟨S1x72x1408, .f32⟩
  | .local _ .vmem, ⟨8, _⟩ => ⟨S1x72x72, .f32⟩
  | .local _ .vmem, ⟨9, _⟩ => ⟨S1x72x72, .f32⟩
  | .local _ .smem, ⟨0, _⟩ => ⟨S1x2x176, .f32⟩
  | .local _ .smem, ⟨1, _⟩ => ⟨S1x2x176, .f32⟩
  | _, _ => ⟨S60x2048x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![60], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x2x176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x72x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x72x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x72x72 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SketchReferenceIdeal.lean ====
abbrev S60x2048x1408 : Shape := ⟨3, ![60, 2048, 1408]⟩
abbrev S60x16x11 : Shape := ⟨3, ![60, 16, 11]⟩
abbrev S60x2048x72 : Shape := ⟨3, ![60, 2048, 72]⟩
abbrev S60x16x1x11x1 : Shape := ⟨5, ![60, 16, 1, 11, 1]⟩
abbrev S60x16x128x11x128 : Shape := ⟨5, ![60, 16, 128, 11, 128]⟩
abbrev S60x72x1408 : Shape := ⟨3, ![60, 72, 1408]⟩
abbrev S60x72x72 : Shape := ⟨3, ![60, 72, 72]⟩

abbrev nBuf : Space → Nat
  | .hbm => 15
  | .vmem => 7
  | .smem => 0
  | _ => 0

abbrev bufTy : (tb : Table) → Fin (tcTables nBuf tb) → BufTy
  | .hbm, ⟨0, _⟩ => ⟨S60x2048x1408, .fp8e4m3⟩
  | .hbm, ⟨1, _⟩ => ⟨S60x16x11, .f32⟩
  | .hbm, ⟨2, _⟩ => ⟨S60x2048x1408, .fp8e4m3⟩
  | .hbm, ⟨3, _⟩ => ⟨S60x16x11, .f32⟩
  | .hbm, ⟨4, _⟩ => ⟨S60x2048x72, .bf16⟩
  | .hbm, ⟨5, _⟩ => ⟨S60x16x11, .bf16⟩
  | .hbm, ⟨6, _⟩ => ⟨S60x16x1x11x1, .bf16⟩
  | .hbm, ⟨7, _⟩ => ⟨S60x16x128x11x128, .bf16⟩
  | .hbm, ⟨8, _⟩ => ⟨S60x2048x1408, .bf16⟩
  | .hbm, ⟨9, _⟩ => ⟨S60x16x11, .bf16⟩
  | .hbm, ⟨10, _⟩ => ⟨S60x16x1x11x1, .bf16⟩
  | .hbm, ⟨11, _⟩ => ⟨S60x16x128x11x128, .bf16⟩
  | .hbm, ⟨12, _⟩ => ⟨S60x2048x1408, .bf16⟩
  | .hbm, ⟨13, _⟩ => ⟨S60x72x1408, .f32⟩
  | .hbm, ⟨14, _⟩ => ⟨S60x72x72, .f32⟩
  | .local _ .vmem, ⟨0, _⟩ => ⟨S60x2048x1408, .fp8e4m3⟩
  | .local _ .vmem, ⟨1, _⟩ => ⟨S60x2048x1408, .bf16⟩
  | .local _ .vmem, ⟨2, _⟩ => ⟨S60x2048x1408, .fp8e4m3⟩
  | .local _ .vmem, ⟨3, _⟩ => ⟨S60x2048x1408, .bf16⟩
  | .local _ .vmem, ⟨4, _⟩ => ⟨S60x2048x72, .bf16⟩
  | .local _ .vmem, ⟨5, _⟩ => ⟨S60x72x1408, .f32⟩
  | .local _ .vmem, ⟨6, _⟩ => ⟨S60x72x72, .f32⟩
  | _, _ => ⟨S60x2048x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S60x2048x1408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S60x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S60x2048x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S60x2048x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S60x2048x72 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S60x72x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S60x72x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Power.lean ====
abbrev S60x2048x1408 : Shape := ⟨3, ![60, 2048, 1408]⟩
abbrev S60x16x11 : Shape := ⟨3, ![60, 16, 11]⟩
abbrev S60x72x1408 : Shape := ⟨3, ![60, 72, 1408]⟩
abbrev S60x72x72 : Shape := ⟨3, ![60, 72, 72]⟩
abbrev S60x176 : Shape := ⟨2, ![60, 176]⟩
abbrev S60x1x176 : Shape := ⟨3, ![60, 1, 176]⟩
abbrev S60x2x176 : Shape := ⟨3, ![60, 2, 176]⟩
abbrev S1x2x176 : Shape := ⟨3, ![1, 2, 176]⟩
abbrev S1x2048x1408 : Shape := ⟨3, ![1, 2048, 1408]⟩
abbrev S1x72x1408 : Shape := ⟨3, ![1, 72, 1408]⟩
abbrev S1x72x72 : Shape := ⟨3, ![1, 72, 72]⟩
abbrev S72x2048 : Shape := ⟨2, ![72, 2048]⟩
abbrev S72x72 : Shape := ⟨2, ![72, 72]⟩
abbrev S72x1408 : Shape := ⟨2, ![72, 1408]⟩
abbrev S72x128 : Shape := ⟨2, ![72, 128]⟩
abbrev S1x1x1 : Shape := ⟨3, ![1, 1, 1]⟩
abbrev S144x1408 : Shape := ⟨2, ![144, 1408]⟩
abbrev S144x1280 : Shape := ⟨2, ![144, 1280]⟩
abbrev S1x256x1280 : Shape := ⟨3, ![1, 256, 1280]⟩
abbrev S256x1280 : Shape := ⟨2, ![256, 1280]⟩
abbrev S144x256 : Shape := ⟨2, ![144, 256]⟩
abbrev S144x128 : Shape := ⟨2, ![144, 128]⟩
abbrev S1x256x128 : Shape := ⟨3, ![1, 256, 128]⟩
abbrev S256x128 : Shape := ⟨2, ![256, 128]⟩
abbrev S256x256 : Shape := ⟨2, ![256, 256]⟩
abbrev S72x256 : Shape := ⟨2, ![72, 256]⟩
abbrev S144x2048 : Shape := ⟨2, ![144, 2048]⟩
abbrev S1x2048x256 : Shape := ⟨3, ![1, 2048, 256]⟩
abbrev S2048x256 : Shape := ⟨2, ![2048, 256]⟩
abbrev S1x72x128 : Shape := ⟨3, ![1, 72, 128]⟩
abbrev S1x2048x128 : Shape := ⟨3, ![1, 2048, 128]⟩
abbrev S2048x128 : Shape := ⟨2, ![2048, 128]⟩
abbrev S60x1408x72 : Shape := ⟨3, ![60, 1408, 72]⟩

abbrev nBuf : Space → Nat
  | .hbm => 17
  | .vmem => 15
  | .smem => 2
  | _ => 0

abbrev bufTy : (tb : Table) → Fin (tcTables nBuf tb) → BufTy
  | .hbm, ⟨0, _⟩ => ⟨S60x2048x1408, .fp8e4m3⟩
  | .hbm, ⟨1, _⟩ => ⟨S60x16x11, .f32⟩
  | .hbm, ⟨2, _⟩ => ⟨S60x2048x1408, .fp8e4m3⟩
  | .hbm, ⟨3, _⟩ => ⟨S60x16x11, .f32⟩
  | .hbm, ⟨4, _⟩ => ⟨S60x72x1408, .f32⟩
  | .hbm, ⟨5, _⟩ => ⟨S60x72x72, .f32⟩
  | .hbm, ⟨6, _⟩ => ⟨S60x176, .f32⟩
  | .hbm, ⟨7, _⟩ => ⟨S60x176, .f32⟩
  | .hbm, ⟨8, _⟩ => ⟨S60x1x176, .f32⟩
  | .hbm, ⟨9, _⟩ => ⟨S60x1x176, .f32⟩
  | .hbm, ⟨10, _⟩ => ⟨S60x2x176, .f32⟩
  | .hbm, ⟨11, _⟩ => ⟨S60x2x176, .bf16⟩
  | .hbm, ⟨12, _⟩ => ⟨S60x2x176, .f32⟩
  | .hbm, ⟨13, _⟩ => ⟨S60x72x1408, .f32⟩
  | .hbm, ⟨14, _⟩ => ⟨S60x72x1408, .f32⟩
  | .hbm, ⟨15, _⟩ => ⟨S60x72x72, .f32⟩
  | .hbm, ⟨16, _⟩ => ⟨S60x1408x72, .f32⟩
  | .local _ .vmem, ⟨0, _⟩ => ⟨S1x2048x1408, .fp8e4m3⟩
  | .local _ .vmem, ⟨1, _⟩ => ⟨S1x2048x1408, .fp8e4m3⟩
  | .local _ .vmem, ⟨2, _⟩ => ⟨S1x2048x1408, .fp8e4m3⟩
  | .local _ .vmem, ⟨3, _⟩ => ⟨S1x2048x1408, .fp8e4m3⟩
  | .local _ .vmem, ⟨4, _⟩ => ⟨S1x72x1408, .f32⟩
  | .local _ .vmem, ⟨5, _⟩ => ⟨S1x72x1408, .f32⟩
  | .local _ .vmem, ⟨6, _⟩ => ⟨S1x72x72, .f32⟩
  | .local _ .vmem, ⟨7, _⟩ => ⟨S1x72x72, .f32⟩
  | .local _ .vmem, ⟨8, _⟩ => ⟨S1x72x1408, .f32⟩
  | .local _ .vmem, ⟨9, _⟩ => ⟨S1x72x1408, .f32⟩
  | .local _ .vmem, ⟨10, _⟩ => ⟨S1x72x1408, .f32⟩
  | .local _ .vmem, ⟨11, _⟩ => ⟨S1x72x1408, .f32⟩
  | .local _ .vmem, ⟨12, _⟩ => ⟨S1x72x72, .f32⟩
  | .local _ .vmem, ⟨13, _⟩ => ⟨S1x72x72, .f32⟩
  | .local _ .vmem, ⟨14, _⟩ => ⟨S72x2048, .f32⟩
  | .local _ .smem, ⟨0, _⟩ => ⟨S1x2x176, .f32⟩
  | .local _ .smem, ⟨1, _⟩ => ⟨S1x2x176, .f32⟩
  | _, _ => ⟨S60x2048x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![60], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x2x176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x72x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x72x72 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x72x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x72x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x72x72 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PowerReferenceIdeal.lean ====
abbrev S60x2048x1408 : Shape := ⟨3, ![60, 2048, 1408]⟩
abbrev S60x16x11 : Shape := ⟨3, ![60, 16, 11]⟩
abbrev S60x72x1408 : Shape := ⟨3, ![60, 72, 1408]⟩
abbrev S60x72x72 : Shape := ⟨3, ![60, 72, 72]⟩
abbrev S60x16x1x11x1 : Shape := ⟨5, ![60, 16, 1, 11, 1]⟩
abbrev S60x16x128x11x128 : Shape := ⟨5, ![60, 16, 128, 11, 128]⟩
abbrev S60x1408x72 : Shape := ⟨3, ![60, 1408, 72]⟩
abbrev S60x72x2048 : Shape := ⟨3, ![60, 72, 2048]⟩
abbrev S60x2048x72 : Shape := ⟨3, ![60, 2048, 72]⟩

abbrev nBuf : Space → Nat
  | .hbm => 17
  | .vmem => 9
  | .smem => 0
  | _ => 0

abbrev bufTy : (tb : Table) → Fin (tcTables nBuf tb) → BufTy
  | .hbm, ⟨0, _⟩ => ⟨S60x2048x1408, .fp8e4m3⟩
  | .hbm, ⟨1, _⟩ => ⟨S60x16x11, .f32⟩
  | .hbm, ⟨2, _⟩ => ⟨S60x2048x1408, .fp8e4m3⟩
  | .hbm, ⟨3, _⟩ => ⟨S60x16x11, .f32⟩
  | .hbm, ⟨4, _⟩ => ⟨S60x72x1408, .f32⟩
  | .hbm, ⟨5, _⟩ => ⟨S60x72x72, .f32⟩
  | .hbm, ⟨6, _⟩ => ⟨S60x16x11, .bf16⟩
  | .hbm, ⟨7, _⟩ => ⟨S60x16x1x11x1, .bf16⟩
  | .hbm, ⟨8, _⟩ => ⟨S60x16x128x11x128, .bf16⟩
  | .hbm, ⟨9, _⟩ => ⟨S60x2048x1408, .bf16⟩
  | .hbm, ⟨10, _⟩ => ⟨S60x16x11, .bf16⟩
  | .hbm, ⟨11, _⟩ => ⟨S60x16x1x11x1, .bf16⟩
  | .hbm, ⟨12, _⟩ => ⟨S60x16x128x11x128, .bf16⟩
  | .hbm, ⟨13, _⟩ => ⟨S60x2048x1408, .bf16⟩
  | .hbm, ⟨14, _⟩ => ⟨S60x1408x72, .f32⟩
  | .hbm, ⟨15, _⟩ => ⟨S60x72x1408, .f32⟩
  | .hbm, ⟨16, _⟩ => ⟨S60x72x72, .f32⟩
  | .local _ .vmem, ⟨0, _⟩ => ⟨S60x2048x1408, .fp8e4m3⟩
  | .local _ .vmem, ⟨1, _⟩ => ⟨S60x2048x1408, .bf16⟩
  | .local _ .vmem, ⟨2, _⟩ => ⟨S60x2048x1408, .fp8e4m3⟩
  | .local _ .vmem, ⟨3, _⟩ => ⟨S60x2048x1408, .bf16⟩
  | .local _ .vmem, ⟨4, _⟩ => ⟨S60x72x1408, .f32⟩
  | .local _ .vmem, ⟨5, _⟩ => ⟨S60x72x72, .f32⟩
  | .local _ .vmem, ⟨6, _⟩ => ⟨S60x1408x72, .f32⟩
  | .local _ .vmem, ⟨7, _⟩ => ⟨S60x72x1408, .f32⟩
  | .local _ .vmem, ⟨8, _⟩ => ⟨S60x72x72, .f32⟩
  | _, _ => ⟨S60x2048x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S60x2048x1408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S60x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S60x2048x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S60x2048x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S60x72x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S60x72x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S60x1408x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S60x72x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S60x72x72 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Project.lean ====
abbrev S60x2048x1408 : Shape := ⟨3, ![60, 2048, 1408]⟩
abbrev S60x16x11 : Shape := ⟨3, ![60, 16, 11]⟩
abbrev S60x72x1408 : Shape := ⟨3, ![60, 72, 1408]⟩
abbrev S60x72x72 : Shape := ⟨3, ![60, 72, 72]⟩
abbrev S60x176 : Shape := ⟨2, ![60, 176]⟩
abbrev S60x1x176 : Shape := ⟨3, ![60, 1, 176]⟩
abbrev S60x2x176 : Shape := ⟨3, ![60, 2, 176]⟩
abbrev S60x72x2048 : Shape := ⟨3, ![60, 72, 2048]⟩
abbrev S1x2x176 : Shape := ⟨3, ![1, 2, 176]⟩
abbrev S1x2048x1408 : Shape := ⟨3, ![1, 2048, 1408]⟩
abbrev S1x72x1408 : Shape := ⟨3, ![1, 72, 1408]⟩
abbrev S1x72x72 : Shape := ⟨3, ![1, 72, 72]⟩
abbrev S1x72x2048 : Shape := ⟨3, ![1, 72, 2048]⟩
abbrev S72x72 : Shape := ⟨2, ![72, 72]⟩
abbrev S72x1408 : Shape := ⟨2, ![72, 1408]⟩
abbrev S72x128 : Shape := ⟨2, ![72, 128]⟩
abbrev S1x1x1 : Shape := ⟨3, ![1, 1, 1]⟩
abbrev S144x1408 : Shape := ⟨2, ![144, 1408]⟩
abbrev S144x1280 : Shape := ⟨2, ![144, 1280]⟩
abbrev S1x256x1280 : Shape := ⟨3, ![1, 256, 1280]⟩
abbrev S256x1280 : Shape := ⟨2, ![256, 1280]⟩
abbrev S144x256 : Shape := ⟨2, ![144, 256]⟩
abbrev S144x128 : Shape := ⟨2, ![144, 128]⟩
abbrev S1x256x128 : Shape := ⟨3, ![1, 256, 128]⟩
abbrev S256x128 : Shape := ⟨2, ![256, 128]⟩
abbrev S256x256 : Shape := ⟨2, ![256, 256]⟩
abbrev S72x256 : Shape := ⟨2, ![72, 256]⟩
abbrev S1x72x256 : Shape := ⟨3, ![1, 72, 256]⟩
abbrev S60x1408x72 : Shape := ⟨3, ![60, 1408, 72]⟩

abbrev nBuf : Space → Nat
  | .hbm => 16
  | .vmem => 12
  | .smem => 2
  | _ => 0

abbrev bufTy : (tb : Table) → Fin (tcTables nBuf tb) → BufTy
  | .hbm, ⟨0, _⟩ => ⟨S60x2048x1408, .fp8e4m3⟩
  | .hbm, ⟨1, _⟩ => ⟨S60x16x11, .f32⟩
  | .hbm, ⟨2, _⟩ => ⟨S60x2048x1408, .fp8e4m3⟩
  | .hbm, ⟨3, _⟩ => ⟨S60x16x11, .f32⟩
  | .hbm, ⟨4, _⟩ => ⟨S60x72x1408, .f32⟩
  | .hbm, ⟨5, _⟩ => ⟨S60x72x72, .f32⟩
  | .hbm, ⟨6, _⟩ => ⟨S60x176, .f32⟩
  | .hbm, ⟨7, _⟩ => ⟨S60x176, .f32⟩
  | .hbm, ⟨8, _⟩ => ⟨S60x1x176, .f32⟩
  | .hbm, ⟨9, _⟩ => ⟨S60x1x176, .f32⟩
  | .hbm, ⟨10, _⟩ => ⟨S60x2x176, .f32⟩
  | .hbm, ⟨11, _⟩ => ⟨S60x2x176, .bf16⟩
  | .hbm, ⟨12, _⟩ => ⟨S60x2x176, .f32⟩
  | .hbm, ⟨13, _⟩ => ⟨S60x72x1408, .f32⟩
  | .hbm, ⟨14, _⟩ => ⟨S60x72x2048, .f32⟩
  | .hbm, ⟨15, _⟩ => ⟨S60x1408x72, .f32⟩
  | .local _ .vmem, ⟨0, _⟩ => ⟨S1x2048x1408, .fp8e4m3⟩
  | .local _ .vmem, ⟨1, _⟩ => ⟨S1x2048x1408, .fp8e4m3⟩
  | .local _ .vmem, ⟨2, _⟩ => ⟨S1x2048x1408, .fp8e4m3⟩
  | .local _ .vmem, ⟨3, _⟩ => ⟨S1x2048x1408, .fp8e4m3⟩
  | .local _ .vmem, ⟨4, _⟩ => ⟨S1x72x1408, .f32⟩
  | .local _ .vmem, ⟨5, _⟩ => ⟨S1x72x1408, .f32⟩
  | .local _ .vmem, ⟨6, _⟩ => ⟨S1x72x72, .f32⟩
  | .local _ .vmem, ⟨7, _⟩ => ⟨S1x72x72, .f32⟩
  | .local _ .vmem, ⟨8, _⟩ => ⟨S1x72x1408, .f32⟩
  | .local _ .vmem, ⟨9, _⟩ => ⟨S1x72x1408, .f32⟩
  | .local _ .vmem, ⟨10, _⟩ => ⟨S1x72x2048, .f32⟩
  | .local _ .vmem, ⟨11, _⟩ => ⟨S1x72x2048, .f32⟩
  | .local _ .smem, ⟨0, _⟩ => ⟨S1x2x176, .f32⟩
  | .local _ .smem, ⟨1, _⟩ => ⟨S1x2x176, .f32⟩
  | _, _ => ⟨S60x2048x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![60], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x2x176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x72x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x72x72 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x72x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x72x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjectReferenceIdeal.lean ====
abbrev S60x2048x1408 : Shape := ⟨3, ![60, 2048, 1408]⟩
abbrev S60x16x11 : Shape := ⟨3, ![60, 16, 11]⟩
abbrev S60x72x1408 : Shape := ⟨3, ![60, 72, 1408]⟩
abbrev S60x72x72 : Shape := ⟨3, ![60, 72, 72]⟩
abbrev S60x16x1x11x1 : Shape := ⟨5, ![60, 16, 1, 11, 1]⟩
abbrev S60x16x128x11x128 : Shape := ⟨5, ![60, 16, 128, 11, 128]⟩
abbrev S60x1408x72 : Shape := ⟨3, ![60, 1408, 72]⟩
abbrev S60x72x2048 : Shape := ⟨3, ![60, 72, 2048]⟩

abbrev nBuf : Space → Nat
  | .hbm => 16
  | .vmem => 8
  | .smem => 0
  | _ => 0

abbrev bufTy : (tb : Table) → Fin (tcTables nBuf tb) → BufTy
  | .hbm, ⟨0, _⟩ => ⟨S60x2048x1408, .fp8e4m3⟩
  | .hbm, ⟨1, _⟩ => ⟨S60x16x11, .f32⟩
  | .hbm, ⟨2, _⟩ => ⟨S60x2048x1408, .fp8e4m3⟩
  | .hbm, ⟨3, _⟩ => ⟨S60x16x11, .f32⟩
  | .hbm, ⟨4, _⟩ => ⟨S60x72x1408, .f32⟩
  | .hbm, ⟨5, _⟩ => ⟨S60x72x72, .f32⟩
  | .hbm, ⟨6, _⟩ => ⟨S60x16x11, .bf16⟩
  | .hbm, ⟨7, _⟩ => ⟨S60x16x1x11x1, .bf16⟩
  | .hbm, ⟨8, _⟩ => ⟨S60x16x128x11x128, .bf16⟩
  | .hbm, ⟨9, _⟩ => ⟨S60x2048x1408, .bf16⟩
  | .hbm, ⟨10, _⟩ => ⟨S60x16x11, .bf16⟩
  | .hbm, ⟨11, _⟩ => ⟨S60x16x1x11x1, .bf16⟩
  | .hbm, ⟨12, _⟩ => ⟨S60x16x128x11x128, .bf16⟩
  | .hbm, ⟨13, _⟩ => ⟨S60x2048x1408, .bf16⟩
  | .hbm, ⟨14, _⟩ => ⟨S60x1408x72, .f32⟩
  | .hbm, ⟨15, _⟩ => ⟨S60x72x2048, .f32⟩
  | .local _ .vmem, ⟨0, _⟩ => ⟨S60x2048x1408, .fp8e4m3⟩
  | .local _ .vmem, ⟨1, _⟩ => ⟨S60x2048x1408, .bf16⟩
  | .local _ .vmem, ⟨2, _⟩ => ⟨S60x2048x1408, .fp8e4m3⟩
  | .local _ .vmem, ⟨3, _⟩ => ⟨S60x2048x1408, .bf16⟩
  | .local _ .vmem, ⟨4, _⟩ => ⟨S60x72x1408, .f32⟩
  | .local _ .vmem, ⟨5, _⟩ => ⟨S60x72x72, .f32⟩
  | .local _ .vmem, ⟨6, _⟩ => ⟨S60x1408x72, .f32⟩
  | .local _ .vmem, ⟨7, _⟩ => ⟨S60x72x2048, .f32⟩
  | _, _ => ⟨S60x2048x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S60x2048x1408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S60x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S60x2048x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S60x2048x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S60x72x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S60x72x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S60x1408x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S60x72x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Invert.lean ====
abbrev S60x72x72 : Shape := ⟨3, ![60, 72, 72]⟩
abbrev S72x72 : Shape := ⟨2, ![72, 72]⟩
abbrev S_ : Shape := ⟨0, ![]⟩
abbrev S68x72x72 : Shape := ⟨3, ![68, 72, 72]⟩
abbrev S128x72x72 : Shape := ⟨3, ![128, 72, 72]⟩
abbrev S72x72x128 : Shape := ⟨3, ![72, 72, 128]⟩
abbrev S72x128 : Shape := ⟨2, ![72, 128]⟩
abbrev S1x1x128 : Shape := ⟨3, ![1, 1, 128]⟩
abbrev S1x128 : Shape := ⟨2, ![1, 128]⟩
abbrev S1x72x128 : Shape := ⟨3, ![1, 72, 128]⟩

abbrev nBuf : Space → Nat
  | .hbm => 14
  | .vmem => 4
  | .smem => 0
  | _ => 0

abbrev bufTy : (tb : Table) → Fin (tcTables nBuf tb) → BufTy
  | .hbm, ⟨0, _⟩ => ⟨S60x72x72, .f32⟩
  | .hbm, ⟨1, _⟩ => ⟨S72x72, .i32⟩
  | .hbm, ⟨2, _⟩ => ⟨S72x72, .i32⟩
  | .hbm, ⟨3, _⟩ => ⟨S_, .i32⟩
  | .hbm, ⟨4, _⟩ => ⟨S72x72, .i32⟩
  | .hbm, ⟨5, _⟩ => ⟨S72x72, .i32⟩
  | .hbm, ⟨6, _⟩ => ⟨S72x72, .i1⟩
  | .hbm, ⟨7, _⟩ => ⟨S72x72, .f32⟩
  | .hbm, ⟨8, _⟩ => ⟨S68x72x72, .f32⟩
  | .hbm, ⟨9, _⟩ => ⟨S128x72x72, .f32⟩
  | .hbm, ⟨10, _⟩ => ⟨S72x72x128, .f32⟩
  | .hbm, ⟨11, _⟩ => ⟨S72x72x128, .f32⟩
  | .hbm, ⟨12, _⟩ => ⟨S128x72x72, .f32⟩
  | .hbm, ⟨13, _⟩ => ⟨S60x72x72, .f32⟩
  | .local _ .vmem, ⟨0, _⟩ => ⟨S72x72x128, .f32⟩
  | .local _ .vmem, ⟨1, _⟩ => ⟨S72x72x128, .f32⟩
  | .local _ .vmem, ⟨2, _⟩ => ⟨S72x72x128, .f32⟩
  | .local _ .vmem, ⟨3, _⟩ => ⟨S72x72x128, .f32⟩
  | _, _ => ⟨S60x72x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c72_i32 : BitVec 32 := 72#32
  let v6 : BitVec 32 := Scalar.addi c0_i32 c72_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v8 : Index := Scalar.indexCast arg4
  let v9 : Index := Scalar.indexCast arg4
  let c0_10 : Index := 0#32
  ![v8.toNat, v9.toNat, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v12 : Index := Scalar.indexCast arg4
  let c0_11 : Index := 0#32
  let c0_12 : Index := 0#32
  ![v12.toNat, 0, 0]
@[reducible] def k0_t2_loop (k0_t1 : Fin k0_t1_loop.trips) : Scf.Loop 32 :=
  let c0_i32 : BitVec 32 := 0#32
  let c1_i32 : BitVec 32 := 1#32
  let arg4 : BitVec 32 := Scf.iv c0_i32 c1_i32 k0_t1
  let c1_i32_15 : BitVec 32 := 1#32
  let v22 : BitVec 32 := Scalar.addi arg4 c1_i32_15
  let c72_i32_16 : BitVec 32 := 72#32
  let v23 : BitVec 32 := Scalar.subi c72_i32_16 v22
  let c1_i32_18 : BitVec 32 := 1#32
  let v25 : BitVec 32 := Scalar.divsi v23 c1_i32_18
  let v26 : BitVec 32 := Scalar.muli v25 c1_i32_18
  let v27 : BitVec 32 := Scalar.addi v22 v26
  let c1_i32_19 : BitVec 32 := 1#32
  ⟨v22, v27, c1_i32_19⟩
def k0_off3 (k0_t1 : Fin k0_t1_loop.trips) (k0_t2 : Fin (k0_t2_loop k0_t1).trips) : Fin 3 → Nat :=
  let c0_i32 : BitVec 32 := 0#32
  let c1_i32 : BitVec 32 := 1#32
  let arg4 : BitVec 32 := Scf.iv c0_i32 c1_i32 k0_t1
  let c1_i32_15 : BitVec 32 := 1#32
  let v22 : BitVec 32 := Scalar.addi arg4 c1_i32_15
  let c1_i32_19 : BitVec 32 := 1#32
  let arg5 : BitVec 32 := Scf.iv v22 c1_i32_19 k0_t2
  let v30 : Index := Scalar.indexCast arg5
  let c0_21 : Index := 0#32
  let c0_22 : Index := 0#32
  ![v30.toNat, 0, 0]
def k0_off4 (k0_t1 : Fin k0_t1_loop.trips) (k0_t2 : Fin (k0_t2_loop k0_t1).trips) : Fin 3 → Nat :=
  let c0_i32 : BitVec 32 := 0#32
  let c1_i32 : BitVec 32 := 1#32
  let arg4 : BitVec 32 := Scf.iv c0_i32 c1_i32 k0_t1
  let v33 : Index := Scalar.indexCast arg4
  let c1_i32_15 : BitVec 32 := 1#32
  let v22 : BitVec 32 := Scalar.addi arg4 c1_i32_15
  let c1_i32_19 : BitVec 32 := 1#32
  let arg5 : BitVec 32 := Scf.iv v22 c1_i32_19 k0_t2
  let v34 : Index := Scalar.indexCast arg5
  let c0_23 : Index := 0#32
  ![v33.toNat, v34.toNat, 0]
@[reducible] def k0_t3_loop (k0_t1 : Fin k0_t1_loop.trips) : Scf.Loop 32 :=
  let c0_i32 : BitVec 32 := 0#32
  let c1_i32 : BitVec 32 := 1#32
  let arg4 : BitVec 32 := Scf.iv c0_i32 c1_i32 k0_t1
  let c1_i32_15 : BitVec 32 := 1#32
  let v22 : BitVec 32 := Scalar.addi arg4 c1_i32_15
  let c72_i32_16 : BitVec 32 := 72#32
  let v23 : BitVec 32 := Scalar.subi c72_i32_16 v22
  let c1_i32_18 : BitVec 32 := 1#32
  let v25 : BitVec 32 := Scalar.divsi v23 c1_i32_18
  let v26 : BitVec 32 := Scalar.muli v25 c1_i32_18
  let v27 : BitVec 32 := Scalar.addi v22 v26
  let v24 : BitVec 32 := Scalar.addi v22 v23
  let c1_i32_20 : BitVec 32 := 1#32
  ⟨v27, v24, c1_i32_20⟩
def k0_off5 (k0_t1 : Fin k0_t1_loop.trips) (k0_t3 : Fin (k0_t3_loop k0_t1).trips) : Fin 3 → Nat :=
  let c0_i32 : BitVec 32 := 0#32
  let c1_i32 : BitVec 32 := 1#32
  let arg4 : BitVec 32 := Scf.iv c0_i32 c1_i32 k0_t1
  let c1_i32_15 : BitVec 32 := 1#32
  let v22 : BitVec 32 := Scalar.addi arg4 c1_i32_15
  let c72_i32_16 : BitVec 32 := 72#32
  let v23 : BitVec 32 := Scalar.subi c72_i32_16 v22
  let c1_i32_18 : BitVec 32 := 1#32
  let v25 : BitVec 32 := Scalar.divsi v23 c1_i32_18
  let v26 : BitVec 32 := Scalar.muli v25 c1_i32_18
  let v27 : BitVec 32 := Scalar.addi v22 v26
  let c1_i32_20 : BitVec 32 := 1#32
  let arg5 : BitVec 32 := Scf.iv v27 c1_i32_20 k0_t3
  let v30 : Index := Scalar.indexCast arg5
  let c0_21 : Index := 0#32
  let c0_22 : Index := 0#32
  ![v30.toNat, 0, 0]
def k0_off6 (k0_t1 : Fin k0_t1_loop.trips) (k0_t3 : Fin (k0_t3_loop k0_t1).trips) : Fin 3 → Nat :=
  let c0_i32 : BitVec 32 := 0#32
  let c1_i32 : BitVec 32 := 1#32
  let arg4 : BitVec 32 := Scf.iv c0_i32 c1_i32 k0_t1
  let v33 : Index := Scalar.indexCast arg4
  let c1_i32_15 : BitVec 32 := 1#32
  let v22 : BitVec 32 := Scalar.addi arg4 c1_i32_15
  let c72_i32_16 : BitVec 32 := 72#32
  let v23 : BitVec 32 := Scalar.subi c72_i32_16 v22
  let c1_i32_18 : BitVec 32 := 1#32
  let v25 : BitVec 32 := Scalar.divsi v23 c1_i32_18
  let v26 : BitVec 32 := Scalar.muli v25 c1_i32_18
  let v27 : BitVec 32 := Scalar.addi v22 v26
  let c1_i32_20 : BitVec 32 := 1#32
  let arg5 : BitVec 32 := Scf.iv v27 c1_i32_20 k0_t3
  let v34 : Index := Scalar.indexCast arg5
  let c0_23 : Index := 0#32
  ![v33.toNat, v34.toNat, 0]
@[reducible] def k0_t4_loop : Scf.Loop 32 :=
  let c0_i32_6 : BitVec 32 := 0#32
  let c72_i32_7 : BitVec 32 := 72#32
  let v7 : BitVec 32 := Scalar.addi c0_i32_6 c72_i32_7
  let c1_i32_8 : BitVec 32 := 1#32
  ⟨c0_i32_6, v7, c1_i32_8⟩
@[reducible] def k0_t5_loop (k0_t4 : Fin k0_t4_loop.trips) : Scf.Loop 32 :=
  let c0_i32_11 : BitVec 32 := 0#32
  let c0_i32_6 : BitVec 32 := 0#32
  let c1_i32_8 : BitVec 32 := 1#32
  let arg4 : BitVec 32 := Scf.iv c0_i32_6 c1_i32_8 k0_t4
  let v13 : BitVec 32 := Scalar.subi arg4 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let c1_i32_13 : BitVec 32 := 1#32
  ⟨c0_i32_11, v17, c1_i32_13⟩
def k0_off7 (k0_t4 : Fin k0_t4_loop.trips) (k0_t5 : Fin (k0_t5_loop k0_t4).trips) : Fin 3 → Nat :=
  let c0_i32_11 : BitVec 32 := 0#32
  let c1_i32_13 : BitVec 32 := 1#32
  let arg5 : BitVec 32 := Scf.iv c0_i32_11 c1_i32_13 k0_t5
  let v30 : Index := Scalar.indexCast arg5
  let c0_i32_6 : BitVec 32 := 0#32
  let c1_i32_8 : BitVec 32 := 1#32
  let arg4 : BitVec 32 := Scf.iv c0_i32_6 c1_i32_8 k0_t4
  let v31 : Index := Scalar.indexCast arg4
  let c0_18 : Index := 0#32
  ![v30.toNat, v31.toNat, 0]
def k0_off8 (k0_t4 : Fin k0_t4_loop.trips) (k0_t5 : Fin (k0_t5_loop k0_t4).trips) : Fin 3 → Nat :=
  let c0_i32_11 : BitVec 32 := 0#32
  let c1_i32_13 : BitVec 32 := 1#32
  let arg5 : BitVec 32 := Scf.iv c0_i32_11 c1_i32_13 k0_t5
  let v34 : Index := Scalar.indexCast arg5
  let c0_19 : Index := 0#32
  let c0_20 : Index := 0#32
  ![v34.toNat, 0, 0]
@[reducible] def k0_t6_loop (k0_t4 : Fin k0_t4_loop.trips) : Scf.Loop 32 :=
  let c0_i32_11 : BitVec 32 := 0#32
  let c0_i32_6 : BitVec 32 := 0#32
  let c1_i32_8 : BitVec 32 := 1#32
  let arg4 : BitVec 32 := Scf.iv c0_i32_6 c1_i32_8 k0_t4
  let v13 : BitVec 32 := Scalar.subi arg4 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let v14 : BitVec 32 := Scalar.addi c0_i32_11 v13
  let c1_i32_14 : BitVec 32 := 1#32
  ⟨v17, v14, c1_i32_14⟩
def k0_off9 (k0_t4 : Fin k0_t4_loop.trips) (k0_t6 : Fin (k0_t6_loop k0_t4).trips) : Fin 3 → Nat :=
  let c0_i32_11 : BitVec 32 := 0#32
  let c0_i32_6 : BitVec 32 := 0#32
  let c1_i32_8 : BitVec 32 := 1#32
  let arg4 : BitVec 32 := Scf.iv c0_i32_6 c1_i32_8 k0_t4
  let v13 : BitVec 32 := Scalar.subi arg4 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let c1_i32_14 : BitVec 32 := 1#32
  let arg5 : BitVec 32 := Scf.iv v17 c1_i32_14 k0_t6
  let v30 : Index := Scalar.indexCast arg5
  let v31 : Index := Scalar.indexCast arg4
  let c0_18 : Index := 0#32
  ![v30.toNat, v31.toNat, 0]
def k0_off10 (k0_t4 : Fin k0_t4_loop.trips) (k0_t6 : Fin (k0_t6_loop k0_t4).trips) : Fin 3 → Nat :=
  let c0_i32_11 : BitVec 32 := 0#32
  let c0_i32_6 : BitVec 32 := 0#32
  let c1_i32_8 : BitVec 32 := 1#32
  let arg4 : BitVec 32 := Scf.iv c0_i32_6 c1_i32_8 k0_t4
  let v13 : BitVec 32 := Scalar.subi arg4 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let c1_i32_14 : BitVec 32 := 1#32
  let arg5 : BitVec 32 := Scf.iv v17 c1_i32_14 k0_t6
  let v34 : Index := Scalar.indexCast arg5
  let c0_19 : Index := 0#32
  let c0_20 : Index := 0#32
  ![v34.toNat, 0, 0]
def k0_off11 (k0_t4 : Fin k0_t4_loop.trips) : Fin 3 → Nat :=
  let c0_i32_6 : BitVec 32 := 0#32
  let c1_i32_8 : BitVec 32 := 1#32
  let arg4 : BitVec 32 := Scf.iv c0_i32_6 c1_i32_8 k0_t4
  let v20 : Index := Scalar.indexCast arg4
  let v21 : Index := Scalar.indexCast arg4
  let c0_15 : Index := 0#32
  ![v20.toNat, v21.toNat, 0]
def k0_off12 (k0_t4 : Fin k0_t4_loop.trips) : Fin 3 → Nat :=
  let c0_i32_6 : BitVec 32 := 0#32
  let c1_i32_8 : BitVec 32 := 1#32
  let arg4 : BitVec 32 := Scf.iv c0_i32_6 c1_i32_8 k0_t4
  let v26 : Index := Scalar.indexCast arg4
  let c0_16 : Index := 0#32
  let c0_17 : Index := 0#32
  ![v26.toNat, 0, 0]
abbrev stage0_0 : Fin 1 → Memref sig .tc .vmem S72x72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== InvertReferenceIdeal.lean ====
abbrev S60x72x72 : Shape := ⟨3, ![60, 72, 72]⟩
abbrev S60x72 : Shape := ⟨2, ![60, 72]⟩
abbrev S60x1x72 : Shape := ⟨3, ![60, 1, 72]⟩
abbrev S60x1 : Shape := ⟨2, ![60, 1]⟩
abbrev S60x1x1 : Shape := ⟨3, ![60, 1, 1]⟩
abbrev S60x72x1 : Shape := ⟨3, ![60, 72, 1]⟩

abbrev nBuf : Space → Nat
  | .hbm => 2
  | .vmem => 2
  | .smem => 0
  | _ => 0

abbrev bufTy : (tb : Table) → Fin (tcTables nBuf tb) → BufTy
  | .hbm, ⟨0, _⟩ => ⟨S60x72x72, .f32⟩
  | .hbm, ⟨1, _⟩ => ⟨S60x72x72, .f32⟩
  | .local _ .vmem, ⟨0, _⟩ => ⟨S60x72x72, .f32⟩
  | .local _ .vmem, ⟨1, _⟩ => ⟨S60x72x72, .f32⟩
  | _, _ => ⟨S60x72x72, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c72_i32 : BitVec 32 := 72#32
  let v4 : BitVec 32 := Scalar.addi c0_i32 c72_i32
  let c1_i32 : BitVec 32 := 1#32
  ⟨c0_i32, v4, c1_i32⟩
@[reducible] def k0_t2_loop : Scf.Loop 32 :=
  let c0_i32_6 : BitVec 32 := 0#32
  let c72_i32_7 : BitVec 32 := 72#32
  let v12 : BitVec 32 := Scalar.addi c0_i32_6 c72_i32_7
  let c1_i32_8 : BitVec 32 := 1#32
  ⟨c0_i32_6, v12, c1_i32_8⟩
abbrev stage0_0 : Fin 1 → Memref sig .tc .vmem S60x72x72 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S60x72x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Blocks.lean ====
module
public import Idealize.ShloMosaic.Lib.Pointwise
public import Idealize.ShloMosaic.Lib.Pipeline.Value

/-!
What one block of the two block products computes, over the extended reals.

A kernel multiplies 72 rows by a 2048 × 1408 matrix of codes (or by its transpose), where every 128 × 128 block of codes
has its own scale. It applies the scale to 128 columns of the left operand instead (`scaled`), stacks the operands of two
neighbouring blocks on top of each other, multiplies the 144 rows by 256 columns of codes, and keeps the two diagonal
quarters. The lemmas below read each such value at an index as a sum over the contracted coordinate.
-/

@[expose] public section

set_option maxRecDepth 16384

noncomputable section

namespace RSvd

open Idealize.ShloMosaic
open scoped BigOperators

/-- The shape of a matrix. -/
abbrev Mat (m n : Nat) : Shape := ⟨2, ![m, n]⟩
/-- The shape of a stack of matrices. -/
abbrev Stk (b m n : Nat) : Shape := ⟨3, ![b, m, n]⟩

/-- 128 columns of `x` from column `o`, times `s`, rounded. -/
def part {N : Nat} (x : FVec Ideal (Mat 72 N) .f32) (o : Nat) (s : Ideal .f32) (h : (Mat 72 N).Slices ![0, o] (Mat 72 128))
    (hb : FTy.bits .bf16 < FTy.bits .f32) : FVec Ideal (Mat 72 128) .bf16 :=
  truncf .bf16 (mulf (extractStridedSlice (Mat 72 128) ![0, o] x h) (broadcast (Mat 72 128) s)) hb

/-- `x` with its `j`-th 128 columns multiplied by `s j`. -/
def scaled {K N : Nat} (x : FVec Ideal (Mat 72 N) .f32) (s : Fin K → Ideal .f32)
    (h : ∀ j : Fin K, (Mat 72 N).Slices ![0, 128 * j.val] (Mat 72 128)) (hb : FTy.bits .bf16 < FTy.bits .f32)
    (hc : Shape.Concatenates ((List.ofFn fun j : Fin K => (⟨Mat 72 128, part x (128 * j.val) (s j) (h j) hb⟩ :
      (s : Shape) × (s.Idx → Ideal .bf16))).map (·.1)) (Mat 72 N) 1) : FVec Ideal (Mat 72 N) .bf16 :=
  concatenate (Mat 72 N) 1 (List.ofFn fun j : Fin K => (⟨Mat 72 128, part x (128 * j.val) (s j) (h j) hb⟩ :
      (s : Shape) × (s.Idx → Ideal .bf16))) hc

/-- An entry of the scaled operand is the entry times the scale of its 128-column block. -/
theorem scaled_apply {K N : Nat} (x : FVec Ideal (Mat 72 N) .f32) (s : Fin K → Ideal .f32) (h hb hc) (r : Fin 72) (c : Fin N)
    (hK : c.val / 128 < K) : scaled x s h hb hc (ix2 r c) = x (ix2 r c) * s ⟨c.val / 128, hK⟩ := by
  unfold scaled
  rw [concatenate_ofFn_apply (t := Mat 72 N) (s₁ := Mat 72 128) (1 : Fin 2) (fun j : Fin K => part x (128 * j.val) (s j) (h j) hb) hc rfl 128 rfl (ix2 r c)
    ⟨c.val / 128, hK⟩ rfl (ix2 (n0 := 72) (n1 := 128) r ⟨c.val % 128, Nat.mod_lt _ (by norm_num)⟩) rfl
    (fun b hb => by match b with | ⟨0, _⟩ => rfl | ⟨1, _⟩ => exact absurd rfl hb)]
  show x _ * s _ = _
  congr 2
  funext a
  apply Fin.ext
  match a with
  | ⟨0, _⟩ => show 0 + r.val = r.val; omega
  | ⟨1, _⟩ => show 128 * (c.val / 128) + c.val % 128 = c.val; omega

/-- Two 72-row operands on top of each other, at a row of the first. -/
theorem stack_lo {N : Nat} (a b : FVec Ideal (Mat 72 N) .bf16) (hc) (r : Fin 72) (c : Fin N) :
    concatenate (Mat 144 N) 0 [⟨Mat 72 N, a⟩, ⟨Mat 72 N, b⟩] hc (ix2 ⟨r.val, by omega⟩ c) = a (ix2 r c) := by
  refine concatenate_pair_apply_left (t := Mat 144 N) (s₁ := Mat 72 N) (s₂ := Mat 72 N) 0 a b hc _ rfl (ix2 r c) fun d => ?_
  match d with
  | ⟨0, _⟩ => rfl
  | ⟨1, _⟩ => rfl

/-- Two 72-row operands on top of each other, at a row of the second. -/
theorem stack_hi {N : Nat} (a b : FVec Ideal (Mat 72 N) .bf16) (hc) (r : Fin 72) (c : Fin N) :
    concatenate (Mat 144 N) 0 [⟨Mat 72 N, a⟩, ⟨Mat 72 N, b⟩] hc (ix2 ⟨72 + r.val, by omega⟩ c) = b (ix2 r c) := by
  refine concatenate_pair_apply_right (t := Mat 144 N) (s₁ := Mat 72 N) (s₂ := Mat 72 N) 0 a b hc _ rfl rfl (ix2 r c) (fun d hd => ?_) (by show r.val + 72 = 72 + r.val; omega)
  match d with
  | ⟨0, _⟩ => exact absurd rfl hd
  | ⟨1, _⟩ => rfl

/-- Two arrays of 128 columns side by side, at a column of the first. -/
theorem beside_lo {M : Nat} {φ : FTy} (a b : FVec Ideal (Mat M 128) φ) (hc) (r : Fin M) (c : Fin 128) :
    concatenate (Mat M 256) 1 [⟨Mat M 128, a⟩, ⟨Mat M 128, b⟩] hc (ix2 r ⟨c.val, by omega⟩) = a (ix2 r c) := by
  refine concatenate_pair_apply_left (t := Mat M 256) (s₁ := Mat M 128) (s₂ := Mat M 128) 1 a b hc _ rfl (ix2 r c) fun d => ?_
  match d with
  | ⟨0, _⟩ => rfl
  | ⟨1, _⟩ => rfl

/-- Two arrays of 128 columns side by side, at a column of the second. -/
theorem beside_hi {M : Nat} {φ : FTy} (a b : FVec Ideal (Mat M 128) φ) (hc) (r : Fin M) (c : Fin 128) :
    concatenate (Mat M 256) 1 [⟨Mat M 128, a⟩, ⟨Mat M 128, b⟩] hc (ix2 r ⟨128 + c.val, by omega⟩) = b (ix2 r c) := by
  refine concatenate_pair_apply_right (t := Mat M 256) (s₁ := Mat M 128) (s₂ := Mat M 128) 1 a b hc _ rfl rfl (ix2 r c) (fun d hd => ?_) (by show c.val + 128 = 128 + c.val; omega)
  match d with
  | ⟨0, _⟩ => rfl
  | ⟨1, _⟩ => exact absurd rfl hd

/-! ## Rows times columns of codes -/

/-- A product of 144 rows and 256 columns onto zero is the sum over the contracted coordinate. -/
theorem dot_apply (a : FVec Ideal (Mat 144 2048) .bf16) (w : FVec Ideal (Mat 2048 256) .fp8e4m3) (r : Fin 144) (c : Fin 256) :
    matmul (DotDims.plain 144 2048 256) none a w (constant (Mat 144 256) .f32 0x00000000#32) (ix2 r c)
      = ∑ k : Fin 2048, a (ix2 r k) * w (ix2 k c) := by
  pointwise

/-- A stack of one matrix, read as the matrix. -/
theorem flat_apply {φ : FTy} (w : FVec Ideal (Stk 1 2048 128) φ) (h) (k : Fin 2048) (c : Fin 128) :
    shapeCast (Mat 2048 128) w h (ix2 k c) = w (ix3 0 k c) := by
  pointwise

/-- 144 rows times 256 columns of codes. -/
def cols (a : FVec Ideal (Mat 144 2048) .bf16) (w : FVec Ideal (Stk 1 2048 256) .fp8e4m3)
    (hw : (Stk 1 2048 256).ShapeCasts (Mat 2048 256)) : FVec Ideal (Mat 144 256) .f32 :=
  matmul (DotDims.plain 144 2048 256) none a (shapeCast (Mat 2048 256) w hw) (constant (Mat 144 256) .f32 0x00000000#32)

theorem cols_apply (a w hw) (r : Fin 144) (c : Fin 256) :
    cols a w hw (ix2 r c) = ∑ k : Fin 2048, a (ix2 r k) * w (ix3 0 k c) := by
  pointwise [cols]

/-- Two pairs of stacked operands times 256 columns of the first and of the second codes, added. -/
def pairAcc (f0 f1 b0 b1 : FVec Ideal (Mat 72 2048) .bf16) (wf wb : FVec Ideal (Stk 1 2048 256) .fp8e4m3)
    (hs : Shape.Concatenates [Mat 72 2048, Mat 72 2048] (Mat 144 2048) 0)
    (hw : (Stk 1 2048 256).ShapeCasts (Mat 2048 256)) : FVec Ideal (Mat 144 256) .f32 :=
  addf (cols (concatenate (Mat 144 2048) 0 [⟨Mat 72 2048, f0⟩, ⟨Mat 72 2048, f1⟩] hs) wf hw)
    (cols (concatenate (Mat 144 2048) 0 [⟨Mat 72 2048, b0⟩, ⟨Mat 72 2048, b1⟩] hs) wb hw)

/-- The upper left quarter, which is stored as 128 columns of the result. -/
def pairLo (f0 f1 b0 b1 : FVec Ideal (Mat 72 2048) .bf16) (wf wb : FVec Ideal (Stk 1 2048 256) .fp8e4m3)
    (hs : Shape.Concatenates [Mat 72 2048, Mat 72 2048] (Mat 144 2048) 0) (hw : (Stk 1 2048 256).ShapeCasts (Mat 2048 256))
    (h : (Mat 144 256).Slices ![0, 0] (Mat 72 128)) (h' : (Mat 72 128).ShapeCasts (Stk 1 72 128)) : FVec Ideal (Stk 1 72 128) .f32 :=
  shapeCast (Stk 1 72 128) (extractStridedSlice (Mat 72 128) ![0, 0] (pairAcc f0 f1 b0 b1 wf wb hs hw) h) h'

/-- The lower right quarter, which is stored as the next 128 columns. -/
def pairHi (f0 f1 b0 b1 : FVec Ideal (Mat 72 2048) .bf16) (wf wb : FVec Ideal (Stk 1 2048 256) .fp8e4m3)
    (hs : Shape.Concatenates [Mat 72 2048, Mat 72 2048] (Mat 144 2048) 0) (hw : (Stk 1 2048 256).ShapeCasts (Mat 2048 256))
    (h : (Mat 144 256).Slices ![72, 128] (Mat 72 128)) (h' : (Mat 72 128).ShapeCasts (Stk 1 72 128)) : FVec Ideal (Stk 1 72 128) .f32 :=
  shapeCast (Stk 1 72 128) (extractStridedSlice (Mat 72 128) ![72, 128] (pairAcc f0 f1 b0 b1 wf wb hs hw) h) h'

/-- The upper left quarter is the first operands times the first 128 columns. -/
theorem pairLo_apply (f0 f1 b0 b1 wf wb hs hw h h') (r : Fin 72) (c : Fin 128) :
    pairLo f0 f1 b0 b1 wf wb hs hw h h' (ix3 0 r c)
      = (∑ k : Fin 2048, f0 (ix2 r k) * wf (ix3 0 k ⟨c.val, by omega⟩))
        + ∑ k : Fin 2048, b0 (ix2 r k) * wb (ix3 0 k ⟨c.val, by omega⟩) := by
  have e : pairLo f0 f1 b0 b1 wf wb hs hw h h' (ix3 0 r c)
      = pairAcc f0 f1 b0 b1 wf wb hs hw (ix2 ⟨r.val, by omega⟩ ⟨c.val, by omega⟩) := by
    pointwise [pairLo]
  rw [e]
  show cols _ _ _ _ + cols _ _ _ _ = _
  rw [cols_apply, cols_apply]
  simp only [stack_lo]

/-- The lower right quarter is the second operands times the next 128 columns. -/
theorem pairHi_apply (f0 f1 b0 b1 wf wb hs hw h h') (r : Fin 72) (c : Fin 128) :
    pairHi f0 f1 b0 b1 wf wb hs hw h h' (ix3 0 r c)
      = (∑ k : Fin 2048, f1 (ix2 r k) * wf (ix3 0 k ⟨128 + c.val, by omega⟩))
        + ∑ k : Fin 2048, b1 (ix2 r k) * wb (ix3 0 k ⟨128 + c.val, by omega⟩) := by
  have e : pairHi f0 f1 b0 b1 wf wb hs hw h h' (ix3 0 r c)
      = pairAcc f0 f1 b0 b1 wf wb hs hw (ix2 ⟨72 + r.val, by omega⟩ ⟨128 + c.val, by omega⟩) := by
    pointwise [pairHi]
  rw [e]
  show cols _ _ _ _ + cols _ _ _ _ = _
  rw [cols_apply, cols_apply]
  simp only [stack_hi]

/-- The last 128 columns: the operands of the first and of the second codes stacked, times both codes' columns side by side. -/
def lastAcc (f b : FVec Ideal (Mat 72 2048) .bf16) (wf wb : FVec Ideal (Stk 1 2048 128) .fp8e4m3)
    (hs : Shape.Concatenates [Mat 72 2048, Mat 72 2048] (Mat 144 2048) 0)
    (hw : (Stk 1 2048 128).ShapeCasts (Mat 2048 128))
    (hc : Shape.Concatenates [Mat 2048 128, Mat 2048 128] (Mat 2048 256) 1) : FVec Ideal (Mat 144 256) .f32 :=
  matmul (φ₂ := .fp8e4m3) (DotDims.plain 144 2048 256) none
    (concatenate (Mat 144 2048) 0 [⟨Mat 72 2048, f⟩, ⟨Mat 72 2048, b⟩] hs : FVec Ideal (Mat 144 2048) .bf16)
    (concatenate (Mat 2048 256) 1 [⟨Mat 2048 128, shapeCast (Mat 2048 128) wf hw⟩, ⟨Mat 2048 128, shapeCast (Mat 2048 128) wb hw⟩] hc)
    (constant (Mat 144 256) .f32 0x00000000#32)

/-- The two diagonal quarters of the last product, added. -/
def lastCols (f b : FVec Ideal (Mat 72 2048) .bf16) (wf wb : FVec Ideal (Stk 1 2048 128) .fp8e4m3)
    (hs : Shape.Concatenates [Mat 72 2048, Mat 72 2048] (Mat 144 2048) 0) (hw : (Stk 1 2048 128).ShapeCasts (Mat 2048 128))
    (hc : Shape.Concatenates [Mat 2048 128, Mat 2048 128] (Mat 2048 256) 1)
    (h0 : (Mat 144 256).Slices ![0, 0] (Mat 72 128)) (h1 : (Mat 144 256).Slices ![72, 128] (Mat 72 128))
    (h' : (Mat 72 128).ShapeCasts (Stk 1 72 128)) : FVec Ideal (Stk 1 72 128) .f32 :=
  shapeCast (Stk 1 72 128) (addf (φ := .f32) (extractStridedSlice (Mat 72 128) ![0, 0] (lastAcc f b wf wb hs hw hc) h0)
    (extractStridedSlice (Mat 72 128) ![72, 128] (lastAcc f b wf wb hs hw hc) h1)) h'

/-- The last columns are the same sums as the other columns. -/
theorem lastCols_apply (f b wf wb hs hw hc h0 h1 h') (r : Fin 72) (c : Fin 128) :
    lastCols f b wf wb hs hw hc h0 h1 h' (ix3 0 r c)
      = (∑ k : Fin 2048, f (ix2 r k) * wf (ix3 0 k c)) + ∑ k : Fin 2048, b (ix2 r k) * wb (ix3 0 k c) := by
  have e : lastCols f b wf wb hs hw hc h0 h1 h' (ix3 0 r c)
      = lastAcc f b wf wb hs hw hc (ix2 ⟨r.val, by omega⟩ ⟨c.val, by omega⟩)
        + lastAcc f b wf wb hs hw hc (ix2 ⟨72 + r.val, by omega⟩ ⟨128 + c.val, by omega⟩) := by
    pointwise [lastCols]
  rw [e, lastAcc, dot_apply, dot_apply]
  simp only [stack_lo, stack_hi, beside_lo, beside_hi, flat_apply]

end RSvd

end
-- ==== Proof.Apply.lean ====
module
public import proofs.«01_k».proof.Proof.Blocks
public import Idealize.ShloMosaic.Lib.WholeRead
public import Idealize.ShloMosaic.Lib.Pipeline.ValueKit.Tiles

/-!
The product of 72 rows and one matrix of block-scaled codes, as the kernel stores it: eleven stores of 128 columns.

`fwdPieces` lists the stores, last one first; `fwdPieces_at` says that every one of them holds, at its columns, the product
`fwd` of the rows with the difference of the two scaled matrices.
-/

@[expose] public section

set_option maxRecDepth 65536

noncomputable section

namespace RSvd

open Idealize.ShloMosaic
open scoped BigOperators

/-! ## Where things lie -/

theorem inb_word (a k : Nat) (ha : a < 2) (hk : k < 176) :
    ∀ d, (![0, a, k] : Fin 3 → Nat) d + (Stk 1 1 1).size d ≤ (Stk 1 2 176).size d := by
  intro d
  match d with
  | ⟨0, _⟩ => show 0 + 1 ≤ 1; omega
  | ⟨1, _⟩ => show a + 1 ≤ 2; omega
  | ⟨2, _⟩ => show k + 1 ≤ 176; omega

/-- The rectangle of `m × n` entries at row `a` and column `o` lies in one `M × N` matrix. -/
theorem inb_rect {M N : Nat} (m n a o : Nat) (ha : a + m ≤ M) (ho : o + n ≤ N) :
    ∀ d, (![0, a, o] : Fin 3 → Nat) d + (Stk 1 m n).size d ≤ (Stk 1 M N).size d := by
  intro d
  match d with
  | ⟨0, _⟩ => show 0 + 1 ≤ 1; omega
  | ⟨1, _⟩ => show a + m ≤ M; omega
  | ⟨2, _⟩ => show o + n ≤ N; omega

theorem slices_cols (N o : Nat) (h : o + 128 ≤ N) : (Mat 72 N).Slices ![0, o] (Mat 72 128) := by
  refine ⟨rfl, fun d => ?_⟩
  match d with
  | ⟨0, _⟩ => show 0 + 72 ≤ 72; omega
  | ⟨1, _⟩ => show o + 128 ≤ N; omega

theorem bits_lt : FTy.bits .bf16 < FTy.bits .f32 := by decide
theorem conc16 : Shape.Concatenates (List.replicate 16 (Mat 72 128)) (Mat 72 2048) 1 := by decide
theorem conc_rows : Shape.Concatenates [Mat 72 2048, Mat 72 2048] (Mat 144 2048) 0 := by decide
theorem conc_codes : Shape.Concatenates [Mat 2048 128, Mat 2048 128] (Mat 2048 256) 1 := by decide
theorem flat256 : (Stk 1 2048 256).ShapeCasts (Mat 2048 256) := by decide
theorem flat128 : (Stk 1 2048 128).ShapeCasts (Mat 2048 128) := by decide
theorem unflat128 : (Mat 72 128).ShapeCasts (Stk 1 72 128) := by decide
theorem quarter_lo : (Mat 144 256).Slices ![0, 0] (Mat 72 128) := by decide
theorem quarter_hi : (Mat 144 256).Slices ![72, 128] (Mat 72 128) := by decide

/-- Three coordinates that an index has determine it. -/
theorem eq_ix3 {n0 n1 n2 : Nat} (x : (Stk n0 n1 n2).Idx) (a : Fin n0) (b : Fin n1) (c : Fin n2) (h0 : (x 0 : Nat) = a) (h1 : (x 1 : Nat) = b)
    (h2 : (x 2 : Nat) = c) : x = ix3 a b c := by
  funext d
  apply Fin.ext
  match d with
  | ⟨0, _⟩ => exact h0
  | ⟨1, _⟩ => exact h1
  | ⟨2, _⟩ => exact h2

/-- A load of a whole block reads the block. -/
theorem readAt_whole {sig : RefSig} {κ : Kind} {sp : Space} {b m n : Nat} {e : EltTy} (a : Memref sig κ sp (Stk b m n) e) (h : a.IsWhole)
    (X : Vec Ideal (Stk b m n) e) (inb) :
    View.readAt (Elt Ideal) a.view (Rect.unit (s := Stk b m n) ![0, 0, 0] (Stk b m n).size inb).toLoadRect (h.unread X) = X := by
  have hz : (![0, 0, 0] : Fin 3 → Nat) = fun _ => 0 := by
    funext d; match d with | ⟨0, _⟩ => rfl | ⟨1, _⟩ => rfl | ⟨2, _⟩ => rfl
  refine Eq.trans ?_ (View.ld_unit_zero (Val := Elt Ideal) (S := Stk b m n) hz inb X)
  funext y
  rw [h.readAt_unread]

/-! ## The scales and the codes the kernel reads -/

variable {sig : RefSig} {κ : Kind}

/-- The word at row `a`, position `k` of the block of scales. -/
def word (sc : Memref sig κ .smem (Stk 1 2 176) .f32) (hsc : sc.IsWhole) (s : Vec Ideal (Stk 1 2 176) .f32)
    (a k : Nat) (ha : a < 2) (hk : k < 176) : Ideal .f32 :=
  View.readAt (Elt Ideal) sc.view (Rect.unit (s := Stk 1 2 176) ![0, a, k] (Stk 1 1 1).size (inb_word a k ha hk)).toLoadRect
    (hsc.unread s) (Shape.Idx.first (s := Stk 1 1 1) (by decide))

theorem word_eq (sc : Memref sig κ .smem (Stk 1 2 176) .f32) (hsc : sc.IsWhole) (s : Vec Ideal (Stk 1 2 176) .f32)
    (a k : Nat) (ha : a < 2) (hk : k < 176) : word sc hsc s a k ha hk = s (ix3 0 ⟨a, ha⟩ ⟨k, hk⟩) := by
  unfold word
  rw [hsc.readAt_unread]
  congr 1
  refine eq_ix3 _ _ _ _ ?_ ?_ ?_
  · show 0 + 1 * 0 = 0; omega
  · show a + 1 * 0 = a; omega
  · show k + 1 * 0 = k; omega

/-- `m × n` codes at row `a` and column `o`, as the kernel reads them. -/
def codes (w : Memref sig κ .vmem (Stk 1 2048 1408) .fp8e4m3) (hw : w.IsWhole) (x : Vec Ideal (Stk 1 2048 1408) .fp8e4m3)
    (m n a o : Nat) (ha : a + m ≤ 2048) (ho : o + n ≤ 1408) : FVec Ideal (Stk 1 m n) .fp8e4m3 :=
  View.readAt (Elt Ideal) w.view (Rect.unit (s := Stk 1 2048 1408) ![0, a, o] (Stk 1 m n).size (inb_rect m n a o ha ho)).toLoadRect (hw.unread x)

theorem codes_apply (w : Memref sig κ .vmem (Stk 1 2048 1408) .fp8e4m3) (hw : w.IsWhole) (x : Vec Ideal (Stk 1 2048 1408) .fp8e4m3)
    (m n a o : Nat) (ha : a + m ≤ 2048) (ho : o + n ≤ 1408) (i : Fin m) (j : Fin n) :
    codes w hw x m n a o ha ho (ix3 0 i j) = x (ix3 0 ⟨a + i.val, by omega⟩ ⟨o + j.val, by omega⟩) := by
  unfold codes
  rw [hw.readAt_unread]
  congr 1
  refine eq_ix3 _ _ _ _ ?_ ?_ ?_
  · show 0 + 1 * 0 = 0; omega
  · show a + 1 * i.val = a + i.val; omega
  · show o + 1 * j.val = o + j.val; omega

/-! ## The product -/

/-- The product of the rows `x` with the first matrix of scaled codes, plus the product with the negated second one: each
entry of `x` is first multiplied by the scale of the codes' block, then by the code. -/
def fwd (s : Vec Ideal (Stk 1 2 176) .f32) (wf wb : Vec Ideal (Stk 1 2048 1408) .fp8e4m3) (x : FVec Ideal (Mat 72 2048) .f32)
    (r : Fin 72) (c : Fin 1408) : EReal :=
  (∑ k : Fin 2048, x (ix2 r k) * s (ix3 0 0 ⟨11 * (k.val / 128) + c.val / 128, by omega⟩) * wf (ix3 0 k c))
    + ∑ k : Fin 2048, x (ix2 r k) * (0 - s (ix3 0 1 ⟨11 * (k.val / 128) + c.val / 128, by omega⟩)) * wb (ix3 0 k c)

section
variable (sc : Memref sig κ .smem (Stk 1 2 176) .f32) (hsc : sc.IsWhole)
  (mf : Memref sig κ .vmem (Stk 1 2048 1408) .fp8e4m3) (hmf : mf.IsWhole) (mb : Memref sig κ .vmem (Stk 1 2048 1408) .fp8e4m3) (hmb : mb.IsWhole)
  (s : Vec Ideal (Stk 1 2 176) .f32) (wf wb : Vec Ideal (Stk 1 2048 1408) .fp8e4m3) (x : FVec Ideal (Mat 72 2048) .f32)

/-- The scale that column block `n` of the first codes has in row block `j`. -/
def scF (n : Fin 11) (j : Fin 16) : Ideal .f32 := word sc hsc s 0 (11 * j.val + n.val) (by omega) (by omega)
/-- The negated scale of the second codes. -/
def scB (n : Fin 11) (j : Fin 16) : Ideal .f32 :=
  Scalar.subf (Scalar.ofBits .f32 0x00000000#32) (word sc hsc s 1 (11 * j.val + n.val) (by omega) (by omega))

theorem scF_eq (n : Fin 11) (j : Fin 16) : scF sc hsc s n j = s (ix3 0 0 ⟨11 * j.val + n.val, by omega⟩) := word_eq ..
theorem scB_eq (n : Fin 11) (j : Fin 16) : scB sc hsc s n j = 0 - s (ix3 0 1 ⟨11 * j.val + n.val, by omega⟩) := by
  unfold scB
  rw [word_eq]
  simp

/-- The rows, scaled for one column block. -/
def rows (t : Fin 16 → Ideal .f32) : FVec Ideal (Mat 72 2048) .bf16 :=
  scaled x t (fun j => slices_cols 2048 (128 * j.val) (by omega)) bits_lt conc16

theorem rows_apply (t : Fin 16 → Ideal .f32) (r : Fin 72) (k : Fin 2048) :
    rows x t (ix2 r k) = x (ix2 r k) * t ⟨k.val / 128, by omega⟩ := scaled_apply ..

/-- The store of the first 128 columns of column pair `p`. -/
def fwdLo (p : Fin 5) : FVec Ideal (Stk 1 72 128) .f32 :=
  pairLo (rows x (scF sc hsc s ⟨2 * p.val, by omega⟩)) (rows x (scF sc hsc s ⟨2 * p.val + 1, by omega⟩))
    (rows x (scB sc hsc s ⟨2 * p.val, by omega⟩)) (rows x (scB sc hsc s ⟨2 * p.val + 1, by omega⟩))
    (codes mf hmf wf 2048 256 0 (256 * p.val) (by omega) (by omega)) (codes mb hmb wb 2048 256 0 (256 * p.val) (by omega) (by omega))
    conc_rows flat256 quarter_lo unflat128

/-- The store of the last 128 columns of column pair `p`. -/
def fwdHi (p : Fin 5) : FVec Ideal (Stk 1 72 128) .f32 :=
  pairHi (rows x (scF sc hsc s ⟨2 * p.val, by omega⟩)) (rows x (scF sc hsc s ⟨2 * p.val + 1, by omega⟩))
    (rows x (scB sc hsc s ⟨2 * p.val, by omega⟩)) (rows x (scB sc hsc s ⟨2 * p.val + 1, by omega⟩))
    (codes mf hmf wf 2048 256 0 (256 * p.val) (by omega) (by omega)) (codes mb hmb wb 2048 256 0 (256 * p.val) (by omega) (by omega))
    conc_rows flat256 quarter_hi unflat128

/-- The store of the last 128 columns of all. -/
def fwdLast : FVec Ideal (Stk 1 72 128) .f32 :=
  lastCols (rows x (scF sc hsc s 10)) (rows x (scB sc hsc s 10))
    (codes mf hmf wf 2048 128 0 1280 (by omega) (by omega)) (codes mb hmb wb 2048 128 0 1280 (by omega) (by omega))
    conc_rows flat128 conc_codes quarter_lo quarter_hi unflat128

/-- The eleven stores, the last one first. -/
def fwdPieces : List (View.Piece (Elt Ideal) (Stk 1 72 1408) .f32) :=
  ⟨Rect.unit (s := Stk 1 72 1408) ![0, 0, 1280] (Stk 1 72 128).size (inb_rect 72 128 0 1280 (by omega) (by omega)),
    fwdLast sc hsc mf hmf mb hmb s wf wb x⟩
  :: (List.finRange 5).reverse.flatMap fun p : Fin 5 =>
    [⟨Rect.unit (s := Stk 1 72 1408) ![0, 0, 256 * p.val + 128] (Stk 1 72 128).size (inb_rect 72 128 0 _ (by omega) (by omega)),
      fwdHi sc hsc mf hmf mb hmb s wf wb x p⟩,
     ⟨Rect.unit (s := Stk 1 72 1408) ![0, 0, 256 * p.val] (Stk 1 72 128).size (inb_rect 72 128 0 _ (by omega) (by omega)),
      fwdLo sc hsc mf hmf mb hmb s wf wb x p⟩]

theorem fwdLo_apply (p : Fin 5) (r : Fin 72) (j : Fin 128) (c : Fin 1408) (hc : c.val = 256 * p.val + j.val) :
    fwdLo sc hsc mf hmf mb hmb s wf wb x p (ix3 0 r j) = fwd s wf wb x r c := by
  rw [fwdLo, pairLo_apply, fwd]
  congr 1 <;> refine Finset.sum_congr rfl fun k _ => ?_
  · rw [rows_apply, scF_eq, codes_apply]
    congr 3
    · congr 1; apply Fin.ext; show 11 * (k.val / 128) + 2 * p.val = 11 * (k.val / 128) + c.val / 128; omega
    · apply Fin.ext; show 0 + k.val = k.val; omega
    · apply Fin.ext; show 256 * p.val + j.val = c.val; omega
  · rw [rows_apply, scB_eq, codes_apply]
    congr 3
    · congr 2; apply Fin.ext; show 11 * (k.val / 128) + 2 * p.val = 11 * (k.val / 128) + c.val / 128; omega
    · apply Fin.ext; show 0 + k.val = k.val; omega
    · apply Fin.ext; show 256 * p.val + j.val = c.val; omega

theorem fwdHi_apply (p : Fin 5) (r : Fin 72) (j : Fin 128) (c : Fin 1408) (hc : c.val = 256 * p.val + 128 + j.val) :
    fwdHi sc hsc mf hmf mb hmb s wf wb x p (ix3 0 r j) = fwd s wf wb x r c := by
  rw [fwdHi, pairHi_apply, fwd]
  congr 1 <;> refine Finset.sum_congr rfl fun k _ => ?_
  · rw [rows_apply, scF_eq, codes_apply]
    congr 3
    · congr 1; apply Fin.ext; show 11 * (k.val / 128) + (2 * p.val + 1) = 11 * (k.val / 128) + c.val / 128; omega
    · apply Fin.ext; show 0 + k.val = k.val; omega
    · apply Fin.ext; show 256 * p.val + (128 + j.val) = c.val; omega
  · rw [rows_apply, scB_eq, codes_apply]
    congr 3
    · congr 2; apply Fin.ext; show 11 * (k.val / 128) + (2 * p.val + 1) = 11 * (k.val / 128) + c.val / 128; omega
    · apply Fin.ext; show 0 + k.val = k.val; omega
    · apply Fin.ext; show 256 * p.val + (128 + j.val) = c.val; omega

theorem fwdLast_apply (r : Fin 72) (j : Fin 128) (c : Fin 1408) (hc : c.val = 1280 + j.val) :
    fwdLast sc hsc mf hmf mb hmb s wf wb x (ix3 0 r j) = fwd s wf wb x r c := by
  rw [fwdLast, lastCols_apply, fwd]
  congr 1 <;> refine Finset.sum_congr rfl fun k _ => ?_
  · rw [rows_apply, scF_eq, codes_apply]
    congr 3
    · congr 1; apply Fin.ext; show 11 * (k.val / 128) + 10 = 11 * (k.val / 128) + c.val / 128; omega
    · apply Fin.ext; show 0 + k.val = k.val; omega
    · apply Fin.ext; show 1280 + j.val = c.val; omega
  · rw [rows_apply, scB_eq, codes_apply]
    congr 3
    · congr 2; apply Fin.ext; show 11 * (k.val / 128) + 10 = 11 * (k.val / 128) + c.val / 128; omega
    · apply Fin.ext; show 0 + k.val = k.val; omega
    · apply Fin.ext; show 1280 + j.val = c.val; omega

/-- Every store holds the product at its columns. -/
theorem fwdPieces_at (r : Fin 72) (c : Fin 1408) :
    View.AllAt (fwdPieces sc hsc mf hmf mb hmb s wf wb x) (ix3 0 r c) (fwd s wf wb x r c) := by
  unfold fwdPieces
  refine View.allAt_cons_unit _ _ _ _ _ (fun y hy => ?_) ?_
  · have h1 := hy 1
    have h2 := hy 2
    change r.val = 0 + (y 1 : Nat) at h1
    change c.val = 1280 + (y 2 : Nat) at h2
    rw [eq_ix3 (n0 := 1) (n1 := 72) (n2 := 128) y 0 r (y 2) (by have : (y 0).val < 1 := (y 0).isLt; show (y 0).val = 0; omega) (by omega) rfl]
    exact fwdLast_apply sc hsc mf hmf mb hmb s wf wb x r _ c h2
  · intro q hq
    obtain ⟨p, _, hq⟩ := List.mem_flatMap.1 hq
    refine (?_ : View.AllAt _ _ _) q hq
    refine View.allAt_cons_unit _ _ _ _ _ (fun y hy => ?_) (View.allAt_cons_unit _ _ _ _ _ (fun y hy => ?_) (fun q hq => absurd hq List.not_mem_nil))
    · have h1 := hy 1
      have h2 := hy 2
      change r.val = 0 + (y 1 : Nat) at h1
      change c.val = 256 * p.val + 128 + (y 2 : Nat) at h2
      rw [eq_ix3 (n0 := 1) (n1 := 72) (n2 := 128) y 0 r (y 2) (by have : (y 0).val < 1 := (y 0).isLt; show (y 0).val = 0; omega) (by omega) rfl]
      exact fwdHi_apply sc hsc mf hmf mb hmb s wf wb x p r _ c h2
    · have h1 := hy 1
      have h2 := hy 2
      change r.val = 0 + (y 1 : Nat) at h1
      change c.val = 256 * p.val + (y 2 : Nat) at h2
      rw [eq_ix3 (n0 := 1) (n1 := 72) (n2 := 128) y 0 r (y 2) (by have : (y 0).val < 1 := (y 0).isLt; show (y 0).val = 0; omega) (by omega) rfl]
      exact fwdLo_apply sc hsc mf hmf mb hmb s wf wb x p r _ c h2

end

end RSvd

end
-- ==== Proof.SketchBlock.lean ====
module
public import proofs.«01_k».proof.Proof.Apply
public import proofs.«01_k».proof.Proof.Gen.SketchIdeal.Value

/-!
What one grid point of the first kernel leaves in its two blocks: the product of its matrix' rows with the codes, and the
Gram matrix of that product.
-/

@[expose] public section

set_option maxRecDepth 65536

noncomputable section

namespace Cert.SketchIdeal.Block

open Cert.SketchIdeal Cert.SketchIdeal.Gen Idealize.ShloMosaic Idealize.ShloMosaic.TcCoe Idealize.SL.Sem RSvd

variable (c : Dev nD) (i : grid0.Coords) (arg1 : Memref sig .tc .smem S1x2x176 .f32) (harg1 : arg1.IsWhole) (arg2 : Memref sig .tc .vmem S1x2048x1408 .fp8e4m3) (harg2 : arg2.IsWhole) (arg3 : Memref sig .tc .vmem S1x2048x1408 .fp8e4m3) (harg3 : arg3.IsWhole) (arg4 : Memref sig .tc .vmem S1x72x2048 .bf16) (harg4 : arg4.IsWhole) (arg5 : Memref sig .tc .vmem S1x72x1408 .f32) (harg5 : arg5.IsWhole) (arg6 : Memref sig .tc .vmem S1x72x72 .f32) (harg6 : arg6.IsWhole)
    (x0 : Vec Ideal S1x2x176 .f32) (x1 : Vec Ideal S1x2048x1408 .fp8e4m3) (x2 : Vec Ideal S1x2048x1408 .fp8e4m3) (x3 : Vec Ideal S1x72x2048 .bf16)

/-- The rows the kernel reads, widened. -/
def lhs : FVec Ideal (Mat 72 2048) .f32 :=
  k0_pay3 (View.readAt (Elt Ideal) arg4.view (Rect.unit (s := S1x72x2048) ![0, 0, 0] S1x72x2048.size inb_S1x72x2048_S1x72x2048_0_0_0).toLoadRect (harg4.unread x3))

theorem lhs_eq : lhs arg4 harg4 x3 = k0_pay3 x3 := by
  unfold lhs
  rw [readAt_whole arg4 harg4]

/-- The stores into the product's block are the eleven stores of the product. -/
theorem run_y : (kernelRun0_A c i arg1 harg1 arg2 harg2 arg3 harg3 arg4 harg4 arg5 harg5 arg6 harg6 x0 x1 x2 x3).1
    = fwdPieces arg1 harg1 arg2 harg2 arg3 harg3 x0 x1 x2 (lhs arg4 harg4 x3) := by
  sl_kernel_rfl

/-- The store into the Gram matrix' block. -/
theorem run_g : (kernelRun0_A c i arg1 harg1 arg2 harg2 arg3 harg3 arg4 harg4 arg5 harg5 arg6 harg6 x0 x1 x2 x3).2.1
    = [⟨Rect.unit (s := S1x72x72) ![0, 0, 0] S1x72x72.size inb_S1x72x72_S1x72x72_0_0_0,
        k0_pay2 (arg5.view.readCov (kernelRun0_A c i arg1 harg1 arg2 harg2 arg3 harg3 arg4 harg4 arg5 harg5 arg6 harg6 x0 x1 x2 x3).1
          (Rect.unit (s := S1x72x1408) ![0, 0, 0] S1x72x1408.size inb_S1x72x1408_S1x72x1408_0_0_0).toLoadRect)⟩] := by
  sl_kernel_rfl

/-- The product's block holds the product. -/
theorem y_block (r : Fin 72) (n : Fin 1408) : out0_A_4 c i arg1 harg1 arg2 harg2 arg3 harg3 arg4 harg4 arg5 harg5 arg6 harg6 x0 x1 x2 x3 (ix3 0 r n)
    = fwd x0 x1 x2 (k0_pay3 x3) r n := by
  unfold out0_A_4
  rw [View.read_writes_eq_canon _ _ _ (cover0_A_4 c i arg1 harg1 arg2 harg2 arg3 harg3 arg4 harg4 arg5 harg5 arg6 harg6 x0 x1 x2 x3)]
  refine View.canon_eq_of_allAt _ _ _ (cover0_A_4 c i arg1 harg1 arg2 harg2 arg3 harg3 arg4 harg4 arg5 harg5 arg6 harg6 x0 x1 x2 x3 _) ?_
  rw [run_y, lhs_eq]
  exact fwdPieces_at arg1 harg1 arg2 harg2 arg3 harg3 x0 x1 x2 _ r n

theorem pay2_apply (Y : FVec Ideal S1x72x1408 .f32) (r t : Fin 72) :
    k0_pay2 Y (ix3 0 r t) = ∑ n : Fin 1408, Y (ix3 0 r n) * Y (ix3 0 t n) := by
  pointwise [k0_pay2]

/-- The Gram matrix' block holds the inner products of the product's rows. -/
theorem g_block (r t : Fin 72) : out0_A_5 c i arg1 harg1 arg2 harg2 arg3 harg3 arg4 harg4 arg5 harg5 arg6 harg6 x0 x1 x2 x3 (ix3 0 r t)
    = ∑ n : Fin 1408, fwd x0 x1 x2 (k0_pay3 x3) r n * fwd x0 x1 x2 (k0_pay3 x3) t n := by
  have hz : (![0, 0, 0] : Fin 3 → Nat) = fun _ => 0 := by
    funext d; match d with | ⟨0, _⟩ => rfl | ⟨1, _⟩ => rfl | ⟨2, _⟩ => rfl
  have hy : ∀ r n, View.canon (kernelRun0_A c i arg1 harg1 arg2 harg2 arg3 harg3 arg4 harg4 arg5 harg5 arg6 harg6 x0 x1 x2 x3).1 (ix3 0 r n)
      = fwd x0 x1 x2 (k0_pay3 x3) r n := fun r n => by
    rw [← y_block c i arg1 harg1 arg2 harg2 arg3 harg3 arg4 harg4 arg5 harg5 arg6 harg6 x0 x1 x2 x3 r n]
    unfold out0_A_4
    rw [View.read_writes_eq_canon _ _ _ (cover0_A_4 c i arg1 harg1 arg2 harg2 arg3 harg3 arg4 harg4 arg5 harg5 arg6 harg6 x0 x1 x2 x3)]
  unfold out0_A_5
  rw [View.read_writes_eq_canon _ _ _ (cover0_A_5 c i arg1 harg1 arg2 harg2 arg3 harg3 arg4 harg4 arg5 harg5 arg6 harg6 x0 x1 x2 x3), run_g,
    View.canon_unit_zero (S := S1x72x72) hz, View.readCov_eq_canon_ld _ _ _ fun y => cover0_A_4 c i arg1 harg1 arg2 harg2 arg3 harg3 arg4 harg4 arg5 harg5 arg6 harg6 x0 x1 x2 x3 _,
    View.ld_unit_zero (S := S1x72x1408) hz, pay2_apply]
  simp only [hy]

end Cert.SketchIdeal.Block

end
-- ==== Proof.Spec.lean ====
module
public import proofs.«01_k».proof.Proof.Apply

/-!
The two products with the difference of the scaled matrices, in terms of the arguments: the codes of 60 matrices and their
scales, one per 128 × 128 block.
-/

@[expose] public section

noncomputable section

namespace RSvd

open Idealize.ShloMosaic
open scoped BigOperators

/-- The index that lies at `(r, k)` in the block of matrix `b` is `(b, r, k)`. -/
theorem at_member {m n : Nat} {i : Fin 3 → Nat} (x : (Stk 60 m n).Idx) (b : Fin 60) (h : i = ![b.val, 0, 0]) (r : Fin m) (k : Fin n)
    (h0 : (x 0).val = i 0 * 1 + 1 * 0) (h1 : (x 1).val = i 1 * m + 1 * r.val) (h2 : (x 2).val = i 2 * n + 1 * k.val) : x = ix3 b r k := by
  subst h
  refine eq_ix3 x b r k (h0.trans ?_) (h1.trans ?_) (h2.trans ?_)
  · show b.val * 1 + 1 * 0 = b.val; omega
  · show 0 * m + 1 * r.val = r.val; omega
  · show 0 * n + 1 * k.val = k.val; omega

/-- The index that lies at `(b, r, k)` in the one block that is the whole stack is `(b, r, k)`. -/
theorem at_whole {B m n : Nat} {i : Fin 3 → Nat} (x : (Stk B m n).Idx) (h : i = ![0, 0, 0]) (b : Fin B) (r : Fin m) (k : Fin n)
    (h0 : (x 0).val = i 0 * B + 1 * b.val) (h1 : (x 1).val = i 1 * m + 1 * r.val) (h2 : (x 2).val = i 2 * n + 1 * k.val) : x = ix3 b r k := by
  subst h
  refine eq_ix3 x b r k (h0.trans ?_) (h1.trans ?_) (h2.trans ?_)
  · show 0 * B + 1 * b.val = b.val; omega
  · show 0 * m + 1 * r.val = r.val; omega
  · show 0 * n + 1 * k.val = k.val; omega

theorem hz3 : (![0, 0, 0] : Fin 3 → Nat) = fun _ => 0 := by
  funext d; match d with | ⟨0, _⟩ => rfl | ⟨1, _⟩ => rfl | ⟨2, _⟩ => rfl

/-- Two stacks with the same entries are equal. -/
theorem stk_ext {B m n : Nat} {α : Type} (f g : (Stk B m n).Idx → α) (h : ∀ b r k, f (ix3 b r k) = g (ix3 b r k)) : f = g := by
  funext x
  rw [eq_ix3 x (x 0) (x 1) (x 2) rfl rfl rfl]
  exact h _ _ _

/-- Position `11 j + n` in the flat list of scales is row `j`, … -/
theorem flat_row (j : Fin 16) (n : Fin 11) (h : (11 * j.val + n.val) / 11 < 16) : (⟨(11 * j.val + n.val) / 11, h⟩ : Fin 16) = j :=
  Fin.ext (by show (11 * j.val + n.val) / 11 = j.val; omega)

/-- … column `n`. -/
theorem flat_col (j : Fin 16) (n : Fin 11) (h : (11 * j.val + n.val) % 11 < 11) : (⟨(11 * j.val + n.val) % 11, h⟩ : Fin 11) = n :=
  Fin.ext (by show (11 * j.val + n.val) % 11 = n.val; omega)

/-- The scale of the block that entry `(k, n)` of matrix `b` lies in. -/
def scaleAt (s : Vec Ideal (Stk 60 16 11) .f32) (b : Fin 60) (k : Fin 2048) (n : Fin 1408) : EReal :=
  s (ix3 b ⟨k.val / 128, by omega⟩ ⟨n.val / 128, by omega⟩)

/-- Row `r` of `x` times column `n` of matrix `b`'s difference. -/
def times (cf cb : Vec Ideal (Stk 60 2048 1408) .fp8e4m3) (sf sb : Vec Ideal (Stk 60 16 11) .f32) (x : Fin 60 → Fin 72 → Fin 2048 → EReal)
    (b : Fin 60) (r : Fin 72) (n : Fin 1408) : EReal :=
  (∑ k : Fin 2048, x b r k * scaleAt sf b k n * cf (ix3 b k n)) + ∑ k : Fin 2048, x b r k * (0 - scaleAt sb b k n) * cb (ix3 b k n)

/-- Row `r` of `x` times row `k` of matrix `b`'s difference. -/
def timesT (cf cb : Vec Ideal (Stk 60 2048 1408) .fp8e4m3) (sf sb : Vec Ideal (Stk 60 16 11) .f32) (x : Fin 60 → Fin 72 → Fin 1408 → EReal)
    (b : Fin 60) (r : Fin 72) (k : Fin 2048) : EReal :=
  (∑ n : Fin 1408, x b r n * scaleAt sf b k n * cf (ix3 b k n)) + ∑ n : Fin 1408, x b r n * (0 - scaleAt sb b k n) * cb (ix3 b k n)

/-- The inner products of the rows of `y`. -/
def gram (y : Fin 60 → Fin 72 → Fin 1408 → EReal) (b : Fin 60) (r t : Fin 72) : EReal := ∑ n : Fin 1408, y b r n * y b t n

/-- The rows of `y` combined by the triangular factor `l`. -/
def combine (l : Fin 60 → Fin 72 → Fin 72 → EReal) (y : Fin 60 → Fin 72 → Fin 1408 → EReal) (b : Fin 60) (r : Fin 72) (n : Fin 1408) : EReal :=
  ∑ t : Fin 72, l b r t * y b t n

/-- An entry first scaled, then multiplied by the code, or multiplied by the scaled code. -/
theorem term_eq (x s w : EReal) : x * s * w = x * (w * s) := by rw [mul_assoc, mul_comm s w]

/-- The same with a negated scale. -/
theorem term_neg_eq (x s w : EReal) : x * (0 - s) * w = x * (0 - w * s) := by
  rw [zero_sub, zero_sub, mul_assoc, neg_mul, mul_comm s w]

/-- A block product is the product of its matrix. -/
theorem fwd_eq (cf cb : Vec Ideal (Stk 60 2048 1408) .fp8e4m3) (sf sb : Vec Ideal (Stk 60 16 11) .f32) (x : Fin 60 → Fin 72 → Fin 2048 → EReal)
    (s : Vec Ideal (Stk 1 2 176) .f32) (wf wb : Vec Ideal (Stk 1 2048 1408) .fp8e4m3) (z : FVec Ideal (Mat 72 2048) .f32) (b : Fin 60)
    (h0 : ∀ (j : Fin 16) (n : Fin 11), s (ix3 0 0 ⟨11 * j.val + n.val, by omega⟩) = sf (ix3 b j n))
    (h1 : ∀ (j : Fin 16) (n : Fin 11), s (ix3 0 1 ⟨11 * j.val + n.val, by omega⟩) = sb (ix3 b j n))
    (hf : ∀ k n, wf (ix3 0 k n) = cf (ix3 b k n)) (hb : ∀ k n, wb (ix3 0 k n) = cb (ix3 b k n))
    (hz : ∀ r k, z (ix2 r k) = x b r k) (r : Fin 72) (n : Fin 1408) :
    fwd s wf wb z r n = times cf cb sf sb x b r n := by
  unfold fwd times scaleAt
  congr 1 <;> refine Finset.sum_congr rfl fun k _ => ?_
  · rw [hz, hf, ← h0]
  · rw [hz, hb, ← h1]

end RSvd

end
-- ==== Proof.SketchArray.lean ====
module
public import proofs.«01_k».proof.Proof.SketchBlock
public import proofs.«01_k».proof.Proof.Spec
public import Idealize.ShloMosaic.Lib.Claim

/-!
What the two result arrays of the first kernel hold after the run, in terms of the arguments.
-/

@[expose] public section

set_option maxRecDepth 65536

noncomputable section

namespace Cert.SketchIdeal.Arr

open Cert.SketchIdeal Cert.SketchIdeal.Gen Idealize.ShloMosaic Idealize.ShloMosaic.TcCoe Idealize.SL.Sem RSvd
open Idealize.ShloMosaic.Pipeline (Dat)

variable (m : (ℓ : Loc nD τ sig) → Buf (Elt Ideal) ℓ) (ρ : Dev nD → PrngReg) (c : Dev nD)

abbrev cf : Vec Ideal S60x2048x1408 .fp8e4m3 := m ((c : Thread nD τ).loc main_arg0)
abbrev sf : Vec Ideal S60x16x11 .f32 := m ((c : Thread nD τ).loc main_arg1)
abbrev cb : Vec Ideal S60x2048x1408 .fp8e4m3 := m ((c : Thread nD τ).loc main_arg2)
abbrev sb : Vec Ideal S60x16x11 .f32 := m ((c : Thread nD τ).loc main_arg3)
abbrev om : Vec Ideal S60x2048x72 .bf16 := m ((c : Thread nD τ).loc main_arg4)
/-- The random rows: the last argument, transposed. -/
def xs (b : Fin 60) (r : Fin 72) (k : Fin 2048) : EReal := om m c (ix3 b k r)

/-- The grid point of matrix `b`. -/
abbrev pt (b : Fin 60) : Fin cfg0.N := ⟨b.val, by have h : cfg0.N = 60 := N_0; omega⟩

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![t.val, 0, 0] := (by decide +kernel : ∀ t : Fin grid0.N, win0_5.index t = ![t.val, 0, 0])

/-! ## What the kernel reads at a grid point -/

/-- The block of scales at a grid point is a member of the stack the host built. -/
theorem s_apply (b : Fin 60) (a : Fin 2) (k : Fin 176) : iblk m c 0 (pt b) (ix3 0 a k) = V m c main_v6 (ix3 b a k) :=
  congrArg (V m c main_v6) (at_member _ b (idx0 (pt b)) a k rfl rfl rfl)

/-- The block of first codes at a grid point is its matrix. -/
theorem wf_apply (b : Fin 60) (k : Fin 2048) (n : Fin 1408) : iblk m c 1 (pt b) (ix3 0 k n) = cf m c (ix3 b k n) := by
  rw [cf, ← V_main_arg0 m c]
  exact congrArg (V m c main_arg0) (at_member _ b (idx1 (pt b)) k n rfl rfl rfl)

/-- The block of second codes likewise. -/
theorem wb_apply (b : Fin 60) (k : Fin 2048) (n : Fin 1408) : iblk m c 2 (pt b) (ix3 0 k n) = cb m c (ix3 b k n) := by
  rw [cb, ← V_main_arg2 m c]
  exact congrArg (V m c main_arg2) (at_member _ b (idx2 (pt b)) k n rfl rfl rfl)

/-- The block of rows likewise. -/
theorem x_apply (b : Fin 60) (r : Fin 72) (k : Fin 2048) : iblk m c 3 (pt b) (ix3 0 r k) = V m c main_v7 (ix3 b r k) :=
  congrArg (V m c main_v7) (at_member _ b (idx3 (pt b)) r k rfl rfl rfl)

/-- The host's stack of scales: row 0 has the first codes' scales, … -/
theorem stack_f (b : Fin 60) (j : Fin 16) (n : Fin 11) : V m c main_v6 (ix3 b 0 ⟨11 * j.val + n.val, by omega⟩) = sf m c (ix3 b j n) := by
  entry_read
  pointwise
  exact congrArg₂ (fun p q => sf m c (ix3 b p q)) (flat_row j n _) (flat_col j n _)

/-- … row 1 the second codes'. -/
theorem stack_b (b : Fin 60) (j : Fin 16) (n : Fin 11) : V m c main_v6 (ix3 b 1 ⟨11 * j.val + n.val, by omega⟩) = sb m c (ix3 b j n) := by
  entry_read
  pointwise
  exact congrArg₂ (fun p q => sb m c (ix3 b p q)) (flat_row j n _) (flat_col j n _)

/-- The host transposes the random columns. -/
theorem rows_apply (b : Fin 60) (r : Fin 72) (k : Fin 2048) : V m c main_v7 (ix3 b r k) = xs m c b r k := by
  entry_read
  pointwise [xs]

theorem lhs_apply (x : Vec Ideal S1x72x2048 .bf16) (r : Fin 72) (k : Fin 2048) : k0_pay3 x (ix2 r k) = x (ix3 0 r k) := by
  pointwise [k0_pay3]

/-- The product at a grid point is the product of its matrix. -/
theorem fwd_block (b : Fin 60) (r : Fin 72) (n : Fin 1408) :
    fwd (iblk m c 0 (pt b)) (iblk m c 1 (pt b)) (iblk m c 2 (pt b)) (k0_pay3 (iblk m c 3 (pt b))) r n
      = times (cf m c) (cb m c) (sf m c) (sb m c) (xs m c) b r n :=
  fwd_eq _ _ _ _ _ _ _ _ _ b (fun j n => (s_apply m c b _ _).trans (stack_f m c b j n)) (fun j n => (s_apply m c b _ _).trans (stack_b m c b j n))
    (wf_apply m c b) (wb_apply m c b) (fun r k => (lhs_apply _ r k).trans ((x_apply m c b r k).trans (rows_apply m c b r k))) r n

/-! ## The result arrays -/

theorem y_array (b : Fin 60) (r : Fin 72) (n : Fin 1408) :
    (dats m 0 c).arrAt 4 cfg0.N (ix3 b r n) = times (cf m c) (cb m c) (sf m c) (sb m c) (xs m c) b r n := by
  have h := congrFun (Value.blocks4 m c (pt b) (flush0_4 _)) (ix3 0 r n)
  rw [Value.flushed4_A] at h
  refine Eq.trans (congrArg ((dats m 0 c).arrAt 4 cfg0.N) (at_member _ b (idx4 (pt b)) r n rfl rfl rfl).symm) (h.trans ?_)
  exact (Block.y_block ..).trans (fwd_block m c b r n)

theorem g_array (b : Fin 60) (r t : Fin 72) :
    (dats m 0 c).arrAt 5 cfg0.N (ix3 b r t) = gram (times (cf m c) (cb m c) (sf m c) (sb m c) (xs m c)) b r t := by
  have h := congrFun (Value.blocks5 m c (pt b) (flush0_5 _)) (ix3 0 r t)
  rw [Value.flushed5_A] at h
  refine Eq.trans (congrArg ((dats m 0 c).arrAt 5 cfg0.N) (at_member _ b (idx5 (pt b)) r t rfl rfl rfl).symm) (h.trans ?_)
  refine (Block.g_block ..).trans ?_
  simp only [fwd_block, gram]

end Cert.SketchIdeal.Arr

end
-- ==== Proof.SketchRef.lean ====
module
public import proofs.«01_k».proof.Proof.Spec
public import proofs.«01_k».proof.Proof.Gen.SketchReferenceIdeal.Value
public import Idealize.ShloMosaic.Lib.Claim

/-!
What the first reference computes, in terms of its arguments.
-/

@[expose] public section

set_option maxRecDepth 65536

noncomputable section

namespace Cert.SketchReferenceIdeal.Arr

open Cert.SketchReferenceIdeal Cert.SketchReferenceIdeal.Gen Idealize.ShloMosaic Idealize.ShloMosaic.TcCoe Idealize.SL.Sem RSvd
open Idealize.ShloMosaic.Pipeline (Dat)

variable (m : (ℓ : Loc nD τ sig) → Buf (Elt Ideal) ℓ) (ρ : Dev nD → PrngReg) (c : Dev nD)

abbrev cf : Vec Ideal S60x2048x1408 .fp8e4m3 := m ((c : Thread nD τ).loc main_arg0)
abbrev sf : Vec Ideal S60x16x11 .f32 := m ((c : Thread nD τ).loc main_arg1)
abbrev cb : Vec Ideal S60x2048x1408 .fp8e4m3 := m ((c : Thread nD τ).loc main_arg2)
abbrev sb : Vec Ideal S60x16x11 .f32 := m ((c : Thread nD τ).loc main_arg3)
abbrev om : Vec Ideal S60x2048x72 .bf16 := m ((c : Thread nD τ).loc main_arg4)
/-- The random rows: the last argument, transposed. -/
def xs (b : Fin 60) (r : Fin 72) (k : Fin 2048) : EReal := om m c (ix3 b k r)

/-- The one grid point. -/
abbrev pt : Fin cfg0.N := ⟨0, by have h : cfg0.N = 1 := N_0; omega⟩

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])

/-! ## What the body reads -/

theorem in0 : iblk m c 0 pt = cf m c := by
  rw [cf, ← V_main_arg0 m c]
  exact stk_ext (B := 60) (m := 2048) (n := 1408) _ _ fun b r k => congrArg (V m c main_arg0) (at_whole _ (idx0 pt) b r k rfl rfl rfl)

/-- The host repeats every scale over its block. -/
theorem in1 (b : Fin 60) (k : Fin 2048) (n : Fin 1408) : iblk m c 1 pt (ix3 b k n) = scaleAt (sf m c) b k n := by
  refine Eq.trans (congrArg (V m c main_v3) (at_whole _ (idx1 pt) b k n rfl rfl rfl)) ?_
  entry_read
  pointwise [scaleAt]

theorem in2 : iblk m c 2 pt = cb m c := by
  rw [cb, ← V_main_arg2 m c]
  exact stk_ext (B := 60) (m := 2048) (n := 1408) _ _ fun b r k => congrArg (V m c main_arg2) (at_whole _ (idx2 pt) b r k rfl rfl rfl)

theorem in3 (b : Fin 60) (k : Fin 2048) (n : Fin 1408) : iblk m c 3 pt (ix3 b k n) = scaleAt (sb m c) b k n := by
  refine Eq.trans (congrArg (V m c main_v7) (at_whole _ (idx3 pt) b k n rfl rfl rfl)) ?_
  entry_read
  pointwise [scaleAt]

theorem in4 : iblk m c 4 pt = om m c := by
  rw [om, ← V_main_arg4 m c]
  exact stk_ext (B := 60) (m := 2048) (n := 72) _ _ fun b r k => congrArg (V m c main_arg4) (at_whole _ (idx4 pt) b r k rfl rfl rfl)

/-! ## What it computes -/

theorem pay1_apply (v0 v2 v5 v7 v12) (b : Fin 60) (r : Fin 72) (n : Fin 1408) : k0_pay1 (F := Ideal) v0 v2 v5 v7 v12 (ix3 b r n)
    = (∑ k : Fin 2048, v12 (ix3 b k r) * (v0 (ix3 b k n) * v2 (ix3 b k n)))
      + ∑ k : Fin 2048, v12 (ix3 b k r) * (0 - v5 (ix3 b k n) * v7 (ix3 b k n)) := by
  pointwise [k0_pay1]

theorem pay2_apply (v0 v2 v5 v7 v12) (b : Fin 60) (r t : Fin 72) : k0_pay2 (F := Ideal) v0 v2 v5 v7 v12 (ix3 b r t)
    = ∑ n : Fin 1408, k0_pay1 (F := Ideal) v0 v2 v5 v7 v12 (ix3 b r n) * k0_pay1 (F := Ideal) v0 v2 v5 v7 v12 (ix3 b t n) := by
  pointwise [k0_pay2]

/-- The body's product is the product of every matrix. -/
theorem product (b : Fin 60) (r : Fin 72) (n : Fin 1408) :
    k0_pay1 (F := Ideal) (iblk m c 0 pt) (iblk m c 1 pt) (iblk m c 2 pt) (iblk m c 3 pt) (iblk m c 4 pt) (ix3 b r n)
      = times (cf m c) (cb m c) (sf m c) (sb m c) (xs m c) b r n := by
  rw [pay1_apply, times]
  congr 1 <;> refine Finset.sum_congr rfl fun k _ => ?_
  · rw [in0, in1, in4, term_eq, xs]
  · rw [in2, in3, in4, term_neg_eq, xs]

theorem y_array (b : Fin 60) (r : Fin 72) (n : Fin 1408) :
    (dats m 0 c).arrAt 5 cfg0.N (ix3 b r n) = times (cf m c) (cb m c) (sf m c) (sb m c) (xs m c) b r n := by
  have h := congrFun (Value.blocks5 m c pt (flush0_5 _)) (ix3 b r n)
  rw [Value.flushed5] at h
  refine Eq.trans (congrArg ((dats m 0 c).arrAt 5 cfg0.N) (at_whole _ (idx5 pt) b r n rfl rfl rfl).symm) (h.trans ?_)
  refine Eq.trans ?_ (product m c b r n)
  show out0_5 _ _ _ _ _ (ix3 b r n) = _
  unfold out0_5
  rw [View.canon_unit_zero (S := S60x72x1408) hz3, View.ld_unit_zero (S := S60x2048x1408) hz3, View.ld_unit_zero (S := S60x2048x1408) hz3,
    View.ld_unit_zero (S := S60x2048x1408) hz3, View.ld_unit_zero (S := S60x2048x1408) hz3, View.ld_unit_zero (S := S60x2048x72) hz3]

theorem g_array (b : Fin 60) (r t : Fin 72) :
    (dats m 0 c).arrAt 6 cfg0.N (ix3 b r t) = gram (times (cf m c) (cb m c) (sf m c) (sb m c) (xs m c)) b r t := by
  have h := congrFun (Value.blocks6 m c pt (flush0_6 _)) (ix3 b r t)
  rw [Value.flushed6] at h
  refine Eq.trans (congrArg ((dats m 0 c).arrAt 6 cfg0.N) (at_whole _ (idx6 pt) b r t rfl rfl rfl).symm) (h.trans ?_)
  show out0_6 _ _ _ _ _ (ix3 b r t) = _
  unfold out0_6
  rw [View.canon_unit_zero (S := S60x72x72) hz3, View.ld_unit_zero (S := S60x2048x1408) hz3, View.ld_unit_zero (S := S60x2048x1408) hz3,
    View.ld_unit_zero (S := S60x2048x1408) hz3, View.ld_unit_zero (S := S60x2048x1408) hz3, View.ld_unit_zero (S := S60x2048x72) hz3,
    pay2_apply]
  simp only [product, gram]

end Cert.SketchReferenceIdeal.Arr

end
-- ==== Proof.SketchClaim.lean ====
module
public import proofs.«01_k».proof.Defs
public import proofs.«01_k».proof.Proof.SketchArray
public import proofs.«01_k».proof.Proof.SketchRef

/-!
The first kernel computes what its reference computes: both results, for all arguments.
-/

@[expose] public section

noncomputable section

namespace Cert.Proof

open Idealize.ShloMosaic Idealize.ShloMosaic.TcCoe Idealize.SL.Sem RSvd

theorem algebraic_sketch : Cert.algebraic_SketchIdeal_SketchReferenceIdeal := by
  intro m g m' g' _ hargs
  refine ⟨fun c => (Cert.SketchIdeal.Gen.dats m 0 c).arrAt 4 Cert.SketchIdeal.cfg0.N, fun c => (Cert.SketchIdeal.Gen.dats m 0 c).arrAt 5 Cert.SketchIdeal.cfg0.N,
    Cert.SketchIdeal.Value.run_blocks m g, (θ_run _ _ _).mono (fun r h c => ?_) (Cert.SketchReferenceIdeal.Value.run_blocks m' g')⟩
  obtain ⟨h0, h1, h⟩ := h c
  obtain ⟨a0, a1, a2, a3, a4⟩ := hargs c
  have e : times (Cert.SketchReferenceIdeal.Arr.cf m' c) (Cert.SketchReferenceIdeal.Arr.cb m' c) (Cert.SketchReferenceIdeal.Arr.sf m' c)
        (Cert.SketchReferenceIdeal.Arr.sb m' c) (Cert.SketchReferenceIdeal.Arr.xs m' c)
      = times (Cert.SketchIdeal.Arr.cf m c) (Cert.SketchIdeal.Arr.cb m c) (Cert.SketchIdeal.Arr.sf m c) (Cert.SketchIdeal.Arr.sb m c)
        (Cert.SketchIdeal.Arr.xs m c) := by
    have ex : Cert.SketchReferenceIdeal.Arr.xs m' c = Cert.SketchIdeal.Arr.xs m c := by
      funext b r k
      exact congrFun a4 (ix3 b k r)
    rw [ex]
    exact congr (congr (congr (congrArg times a0) a2) a1) a3 |> (congrFun · _)
  refine ⟨h0.trans ?_, h1.trans ?_, h⟩
  · refine stk_ext (B := 60) (m := 72) (n := 1408) _ _ fun b r n => ?_
    exact (Cert.SketchReferenceIdeal.Arr.y_array m' c b r n).trans ((congrFun (congrFun (congrFun e b) r) n).trans (Cert.SketchIdeal.Arr.y_array m c b r n).symm)
  · refine stk_ext (B := 60) (m := 72) (n := 72) _ _ fun b r t => ?_
    refine (Cert.SketchReferenceIdeal.Arr.g_array m' c b r t).trans (Eq.trans ?_ (Cert.SketchIdeal.Arr.g_array m c b r t).symm)
    rw [e]

end Cert.Proof

end
-- ==== Proof.BlocksT.lean ====
module
public import proofs.«01_k».proof.Proof.Blocks

/-!
What one block of the product with a transposed matrix of codes computes, over the extended reals.

The kernel stacks the scaled operands of two neighbouring row blocks of codes, multiplies the first 1280 columns of the
stack with the codes of either matrix, the last 128 columns of both stacks side by side with the last 128 columns of both
matrices side by side, adds the three products and keeps the two diagonal quarters, side by side.
-/

@[expose] public section

set_option maxRecDepth 16384

noncomputable section

namespace RSvd

open Idealize.ShloMosaic
open scoped BigOperators

theorem dotT_main_apply (a : FVec Ideal (Mat 144 1280) .bf16) (w : FVec Ideal (Mat 256 1280) .fp8e4m3) (r : Fin 144) (c : Fin 256) :
    matmul (DotDims.transposedRhs 144 1280 256) none a w (constant (Mat 144 256) .f32 0x00000000#32) (ix2 r c)
      = ∑ k : Fin 1280, a (ix2 r k) * w (ix2 c k) := by
  pointwise

theorem dotT_last_apply (a : FVec Ideal (Mat 144 256) .bf16) (w : FVec Ideal (Mat 256 256) .fp8e4m3) (r : Fin 144) (c : Fin 256) :
    matmul (DotDims.transposedRhs 144 256 256) none a w (constant (Mat 144 256) .f32 0x00000000#32) (ix2 r c)
      = ∑ k : Fin 256, a (ix2 r k) * w (ix2 c k) := by
  pointwise

/-- The first 1280 columns of a stack times the codes. -/
def mainT (a : FVec Ideal (Mat 144 1408) .bf16) (w : FVec Ideal (Stk 1 256 1280) .fp8e4m3)
    (ha : (Mat 144 1408).Slices ![0, 0] (Mat 144 1280)) (hw : (Stk 1 256 1280).ShapeCasts (Mat 256 1280)) : FVec Ideal (Mat 144 256) .f32 :=
  matmul (DotDims.transposedRhs 144 1280 256) none (extractStridedSlice (Mat 144 1280) ![0, 0] a ha) (shapeCast (Mat 256 1280) w hw)
    (constant (Mat 144 256) .f32 0x00000000#32)

theorem mainT_apply (a w ha hw) (r : Fin 144) (c : Fin 256) :
    mainT a w ha hw (ix2 r c) = ∑ k : Fin 1280, a (ix2 r ⟨k.val, by omega⟩) * w (ix3 0 c k) := by
  pointwise [mainT]

/-- The last 128 columns of the two stacks times the last 128 columns of the two matrices. -/
def lastT (a b : FVec Ideal (Mat 144 1408) .bf16) (wf wb : FVec Ideal (Stk 1 256 128) .fp8e4m3)
    (ha : (Mat 144 1408).Slices ![0, 1280] (Mat 144 128)) (hs : Shape.Concatenates [Mat 144 128, Mat 144 128] (Mat 144 256) 1)
    (hw : (Stk 1 256 128).ShapeCasts (Mat 256 128)) (hc : Shape.Concatenates [Mat 256 128, Mat 256 128] (Mat 256 256) 1) :
    FVec Ideal (Mat 144 256) .f32 :=
  matmul (φ₂ := .fp8e4m3) (DotDims.transposedRhs 144 256 256) none
    (concatenate (Mat 144 256) 1 [⟨Mat 144 128, extractStridedSlice (Mat 144 128) ![0, 1280] a ha⟩,
      ⟨Mat 144 128, extractStridedSlice (Mat 144 128) ![0, 1280] b ha⟩] hs : FVec Ideal (Mat 144 256) .bf16)
    (concatenate (Mat 256 256) 1 [⟨Mat 256 128, shapeCast (Mat 256 128) wf hw⟩, ⟨Mat 256 128, shapeCast (Mat 256 128) wb hw⟩] hc)
    (constant (Mat 144 256) .f32 0x00000000#32)

theorem flatT_apply {φ : FTy} (w : FVec Ideal (Stk 1 256 128) φ) (h) (c : Fin 256) (k : Fin 128) :
    shapeCast (Mat 256 128) w h (ix2 c k) = w (ix3 0 c k) := by
  pointwise

theorem tail_apply (a : FVec Ideal (Mat 144 1408) .bf16) (h) (r : Fin 144) (k : Fin 128) :
    extractStridedSlice (Mat 144 128) ![0, 1280] a h (ix2 r k) = a (ix2 r ⟨1280 + k.val, by omega⟩) := by
  pointwise

/-- A sum over 256 terms is the sum over the first and the second 128. -/
theorem sum_256 (f : Fin 256 → EReal) : ∑ k, f k = (∑ k : Fin 128, f ⟨k.val, by omega⟩) + ∑ k : Fin 128, f ⟨128 + k.val, by omega⟩ :=
  Fin.sum_univ_add (a := 128) (b := 128) f

/-- A sum over 1408 terms is the sum over the first 1280 and the last 128. -/
theorem sum_1408 (f : Fin 1408 → EReal) : ∑ k, f k = (∑ k : Fin 1280, f ⟨k.val, by omega⟩) + ∑ k : Fin 128, f ⟨1280 + k.val, by omega⟩ :=
  Fin.sum_univ_add (a := 1280) (b := 128) f

theorem lastT_apply (a b wf wb ha hs hw hc) (r : Fin 144) (c : Fin 256) :
    lastT a b wf wb ha hs hw hc (ix2 r c) = (∑ k : Fin 128, a (ix2 r ⟨1280 + k.val, by omega⟩) * wf (ix3 0 c k))
      + ∑ k : Fin 128, b (ix2 r ⟨1280 + k.val, by omega⟩) * wb (ix3 0 c k) := by
  rw [lastT, dotT_last_apply, sum_256]
  simp only [beside_lo, beside_hi, flatT_apply, tail_apply]

/-- The three products added. -/
def accT (a b : FVec Ideal (Mat 144 1408) .bf16) (wf wb : FVec Ideal (Stk 1 256 1280) .fp8e4m3) (vf vb : FVec Ideal (Stk 1 256 128) .fp8e4m3)
    (hm : (Mat 144 1408).Slices ![0, 0] (Mat 144 1280)) (hv : (Stk 1 256 1280).ShapeCasts (Mat 256 1280))
    (ha : (Mat 144 1408).Slices ![0, 1280] (Mat 144 128)) (hs : Shape.Concatenates [Mat 144 128, Mat 144 128] (Mat 144 256) 1)
    (hw : (Stk 1 256 128).ShapeCasts (Mat 256 128)) (hc : Shape.Concatenates [Mat 256 128, Mat 256 128] (Mat 256 256) 1) :
    FVec Ideal (Mat 144 256) .f32 :=
  addf (addf (mainT a wf hm hv) (mainT b wb hm hv)) (lastT a b vf vb ha hs hw hc)

/-- With the codes' rows put together, the three products are the products with all 1408 columns. -/
theorem accT_apply (a b wf wb vf vb hm hv ha hs hw hc) (F B : Fin 256 → Fin 1408 → EReal)
    (hf : ∀ c (k : Fin 1280), wf (ix3 0 c k) = F c ⟨k.val, by omega⟩) (hf' : ∀ c (k : Fin 128), vf (ix3 0 c k) = F c ⟨1280 + k.val, by omega⟩)
    (hb : ∀ c (k : Fin 1280), wb (ix3 0 c k) = B c ⟨k.val, by omega⟩) (hb' : ∀ c (k : Fin 128), vb (ix3 0 c k) = B c ⟨1280 + k.val, by omega⟩)
    (r : Fin 144) (c : Fin 256) :
    accT a b wf wb vf vb hm hv ha hs hw hc (ix2 r c)
      = (∑ n : Fin 1408, a (ix2 r n) * F c n) + ∑ n : Fin 1408, b (ix2 r n) * B c n := by
  show mainT _ _ _ _ _ + mainT _ _ _ _ _ + lastT _ _ _ _ _ _ _ _ _ = _
  rw [mainT_apply, mainT_apply, lastT_apply, sum_1408 fun n => a (ix2 r n) * F c n, sum_1408 fun n => b (ix2 r n) * B c n, add_add_add_comm]
  simp only [hf, hf', hb, hb']

/-- The two diagonal quarters side by side. -/
def quarters (acc : FVec Ideal (Mat 144 256) .f32)
    (h0 : (Mat 144 256).Slices ![0, 0] (Mat 72 128)) (h1 : (Mat 144 256).Slices ![72, 128] (Mat 72 128))
    (hq : Shape.Concatenates [Mat 72 128, Mat 72 128] (Mat 72 256) 1) : FVec Ideal (Mat 72 256) .f32 :=
  concatenate (Mat 72 256) 1 [⟨Mat 72 128, extractStridedSlice (Mat 72 128) ![0, 0] acc h0⟩,
    ⟨Mat 72 128, extractStridedSlice (Mat 72 128) ![72, 128] acc h1⟩] hq

theorem quarters_lo (acc h0 h1 hq) (r : Fin 72) (c : Fin 128) :
    quarters acc h0 h1 hq (ix2 r ⟨c.val, by omega⟩) = acc (ix2 ⟨r.val, by omega⟩ ⟨c.val, by omega⟩) := by
  rw [quarters, beside_lo (φ := .f32)]
  pointwise

theorem quarters_hi (acc h0 h1 hq) (r : Fin 72) (c : Fin 128) :
    quarters acc h0 h1 hq (ix2 r ⟨128 + c.val, by omega⟩) = acc (ix2 ⟨72 + r.val, by omega⟩ ⟨128 + c.val, by omega⟩) := by
  rw [quarters, beside_hi (φ := .f32)]
  pointwise

end RSvd

end
-- ==== Proof.ApplyT.lean ====
module
public import proofs.«01_k».proof.Proof.BlocksT
public import proofs.«01_k».proof.Proof.Apply

/-!
The product of 72 rows and one transposed matrix of block-scaled codes, as the kernel stores it: eight stores of 256
columns (`bwdPieces` as a block of a stack, `bwdPieces'` as a matrix, last store first). Every one of them holds, at its
columns, the product `bwd` of the rows with the transposed difference of the two scaled matrices.
-/

@[expose] public section

set_option maxRecDepth 65536

noncomputable section

namespace RSvd

open Idealize.ShloMosaic
open scoped BigOperators

theorem conc11 : Shape.Concatenates (List.replicate 11 (Mat 72 128)) (Mat 72 1408) 1 := by decide
theorem conc_rowsT : Shape.Concatenates [Mat 72 1408, Mat 72 1408] (Mat 144 1408) 0 := by decide
theorem conc_tails : Shape.Concatenates [Mat 144 128, Mat 144 128] (Mat 144 256) 1 := by decide
theorem conc_codesT : Shape.Concatenates [Mat 256 128, Mat 256 128] (Mat 256 256) 1 := by decide
theorem conc_quarters : Shape.Concatenates [Mat 72 128, Mat 72 128] (Mat 72 256) 1 := by decide
theorem head_slice : (Mat 144 1408).Slices ![0, 0] (Mat 144 1280) := by decide
theorem tail_slice : (Mat 144 1408).Slices ![0, 1280] (Mat 144 128) := by decide
theorem flat1280 : (Stk 1 256 1280).ShapeCasts (Mat 256 1280) := by decide
theorem flat128T : (Stk 1 256 128).ShapeCasts (Mat 256 128) := by decide
theorem unflat256 : (Mat 72 256).ShapeCasts (Stk 1 72 256) := by decide

/-- Two coordinates that an index has determine it. -/
theorem eq_ix2 {n0 n1 : Nat} (x : (Mat n0 n1).Idx) (a : Fin n0) (b : Fin n1) (h0 : (x 0 : Nat) = a) (h1 : (x 1 : Nat) = b) : x = ix2 a b := by
  funext d
  apply Fin.ext
  match d with
  | ⟨0, _⟩ => exact h0
  | ⟨1, _⟩ => exact h1

theorem inb_rect2 {M N : Nat} (m n a o : Nat) (ha : a + m ≤ M) (ho : o + n ≤ N) :
    ∀ d, (![a, o] : Fin 2 → Nat) d + (Mat m n).size d ≤ (Mat M N).size d := by
  intro d
  match d with
  | ⟨0, _⟩ => show a + m ≤ M; omega
  | ⟨1, _⟩ => show o + n ≤ N; omega

/-- The product of the rows `x` with the first transposed matrix of scaled codes, plus the product with the negated second
one: each entry of `x` is first multiplied by the scale of the codes' block, then by the code. -/
def bwd (s : Vec Ideal (Stk 1 2 176) .f32) (wf wb : Vec Ideal (Stk 1 2048 1408) .fp8e4m3) (x : FVec Ideal (Mat 72 1408) .f32)
    (r : Fin 72) (k : Fin 2048) : EReal :=
  (∑ n : Fin 1408, x (ix2 r n) * s (ix3 0 0 ⟨11 * (k.val / 128) + n.val / 128, by omega⟩) * wf (ix3 0 k n))
    + ∑ n : Fin 1408, x (ix2 r n) * (0 - s (ix3 0 1 ⟨11 * (k.val / 128) + n.val / 128, by omega⟩)) * wb (ix3 0 k n)

section
variable {sig : RefSig} {κ : Kind}
variable (sc : Memref sig κ .smem (Stk 1 2 176) .f32) (hsc : sc.IsWhole)
  (mf : Memref sig κ .vmem (Stk 1 2048 1408) .fp8e4m3) (hmf : mf.IsWhole) (mb : Memref sig κ .vmem (Stk 1 2048 1408) .fp8e4m3) (hmb : mb.IsWhole)
  (s : Vec Ideal (Stk 1 2 176) .f32) (wf wb : Vec Ideal (Stk 1 2048 1408) .fp8e4m3) (x : FVec Ideal (Mat 72 1408) .f32)

/-- The scale that row block `k` of the first codes has in column block `j`. -/
def scFT (k : Fin 16) (j : Fin 11) : Ideal .f32 := word sc hsc s 0 (11 * k.val + j.val) (by omega) (by omega)
/-- The negated scale of the second codes. -/
def scBT (k : Fin 16) (j : Fin 11) : Ideal .f32 :=
  Scalar.subf (Scalar.ofBits .f32 0x00000000#32) (word sc hsc s 1 (11 * k.val + j.val) (by omega) (by omega))

theorem scFT_eq (k : Fin 16) (j : Fin 11) : scFT sc hsc s k j = s (ix3 0 0 ⟨11 * k.val + j.val, by omega⟩) := word_eq ..
theorem scBT_eq (k : Fin 16) (j : Fin 11) : scBT sc hsc s k j = 0 - s (ix3 0 1 ⟨11 * k.val + j.val, by omega⟩) := by
  unfold scBT
  rw [word_eq]
  simp

/-- The rows, scaled for one row block of codes. -/
def rowsT (t : Fin 11 → Ideal .f32) : FVec Ideal (Mat 72 1408) .bf16 :=
  scaled x t (fun j => slices_cols 1408 (128 * j.val) (by omega)) bits_lt conc11

theorem rowsT_apply (t : Fin 11 → Ideal .f32) (r : Fin 72) (n : Fin 1408) :
    rowsT x t (ix2 r n) = x (ix2 r n) * t ⟨n.val / 128, by omega⟩ := scaled_apply ..

/-- The operands of two neighbouring row blocks on top of each other. -/
def stackT (t u : Fin 11 → Ideal .f32) : FVec Ideal (Mat 144 1408) .bf16 :=
  concatenate (Mat 144 1408) 0 [⟨Mat 72 1408, rowsT x t⟩, ⟨Mat 72 1408, rowsT x u⟩] conc_rowsT

theorem stackT_lo (t u : Fin 11 → Ideal .f32) (r : Fin 72) (n : Fin 1408) :
    stackT x t u (ix2 ⟨r.val, by omega⟩ n) = x (ix2 r n) * t ⟨n.val / 128, by omega⟩ := (stack_lo ..).trans (rowsT_apply ..)
theorem stackT_hi (t u : Fin 11 → Ideal .f32) (r : Fin 72) (n : Fin 1408) :
    stackT x t u (ix2 ⟨72 + r.val, by omega⟩ n) = x (ix2 r n) * u ⟨n.val / 128, by omega⟩ := (stack_hi ..).trans (rowsT_apply ..)

/-- The 144 × 256 block of row block pair `p`. -/
def bwdAcc (p : Fin 8) : FVec Ideal (Mat 144 256) .f32 :=
  accT (stackT x (scFT sc hsc s ⟨2 * p.val, by omega⟩) (scFT sc hsc s ⟨2 * p.val + 1, by omega⟩))
    (stackT x (scBT sc hsc s ⟨2 * p.val, by omega⟩) (scBT sc hsc s ⟨2 * p.val + 1, by omega⟩))
    (codes mf hmf wf 256 1280 (256 * p.val) 0 (by omega) (by omega)) (codes mb hmb wb 256 1280 (256 * p.val) 0 (by omega) (by omega))
    (codes mf hmf wf 256 128 (256 * p.val) 1280 (by omega) (by omega)) (codes mb hmb wb 256 128 (256 * p.val) 1280 (by omega) (by omega))
    head_slice flat1280 tail_slice conc_tails flat128T conc_codesT

/-- The 256 columns of row block pair `p`. -/
def bwdCols (p : Fin 8) : FVec Ideal (Mat 72 256) .f32 :=
  quarters (bwdAcc sc hsc mf hmf mb hmb s wf wb x p) quarter_lo quarter_hi conc_quarters

/-- The eight stores into a block of a stack, the last one first. -/
def bwdPieces : List (View.Piece (Elt Ideal) (Stk 1 72 2048) .f32) :=
  (List.finRange 8).reverse.map fun p : Fin 8 =>
    ⟨Rect.unit (s := Stk 1 72 2048) ![0, 0, 256 * p.val] (Stk 1 72 256).size (inb_rect 72 256 0 _ (by omega) (by omega)),
      shapeCast (Stk 1 72 256) (bwdCols sc hsc mf hmf mb hmb s wf wb x p) unflat256⟩

/-- The eight stores into a matrix, rounded, the last one first. -/
def bwdPieces' : List (View.Piece (Elt Ideal) (Mat 72 2048) .f32) :=
  (List.finRange 8).reverse.map fun p : Fin 8 =>
    ⟨Rect.unit (s := Mat 72 2048) ![0, 256 * p.val] (Mat 72 256).size (inb_rect2 72 256 0 _ (by omega) (by omega)),
      shapeCast (Mat 72 256) (extf .f32 (truncf .bf16 (bwdCols sc hsc mf hmf mb hmb s wf wb x p) bits_lt) bits_lt) (by decide)⟩

theorem bwdAcc_apply (p : Fin 8) (r : Fin 144) (c : Fin 256) :
    bwdAcc sc hsc mf hmf mb hmb s wf wb x p (ix2 r c)
      = (∑ n : Fin 1408, stackT x (scFT sc hsc s ⟨2 * p.val, by omega⟩) (scFT sc hsc s ⟨2 * p.val + 1, by omega⟩) (ix2 r n)
          * wf (ix3 0 ⟨256 * p.val + c.val, by omega⟩ n))
        + ∑ n : Fin 1408, stackT x (scBT sc hsc s ⟨2 * p.val, by omega⟩) (scBT sc hsc s ⟨2 * p.val + 1, by omega⟩) (ix2 r n)
          * wb (ix3 0 ⟨256 * p.val + c.val, by omega⟩ n) := by
  rw [bwdAcc]
  refine accT_apply _ _ _ _ _ _ _ _ _ _ _ _ (fun c n => wf (ix3 0 ⟨256 * p.val + c.val, by omega⟩ n)) (fun c n => wb (ix3 0 ⟨256 * p.val + c.val, by omega⟩ n))
    (fun c k => ?_) (fun c k => ?_) (fun c k => ?_) (fun c k => ?_) r c
  all_goals
    rw [codes_apply]
    try exact congrArg (fun z => wf (ix3 0 ⟨256 * p.val + c.val, by omega⟩ z)) (Fin.ext (Nat.zero_add _))
    try exact congrArg (fun z => wb (ix3 0 ⟨256 * p.val + c.val, by omega⟩ z)) (Fin.ext (Nat.zero_add _))

/-- The 256 columns are the product at those columns. -/
theorem bwdCols_apply (p : Fin 8) (r : Fin 72) (j : Fin 256) (k : Fin 2048) (hk : k.val = 256 * p.val + j.val) :
    bwdCols sc hsc mf hmf mb hmb s wf wb x p (ix2 r j) = bwd s wf wb x r k := by
  by_cases hj : j.val < 128
  · obtain ⟨j', rfl⟩ : ∃ j' : Fin 128, j = ⟨j'.val, Nat.lt_of_lt_of_le j'.isLt (by decide)⟩ := ⟨⟨j.val, hj⟩, rfl⟩
    have hb : 256 * p.val + j'.val < 2048 := by omega
    obtain rfl : k = ⟨256 * p.val + j'.val, hb⟩ := Fin.ext hk
    have e : ∀ n : Fin 1408, (⟨11 * (2 * p.val) + n.val / 128, by omega⟩ : Fin 176) = ⟨11 * ((256 * p.val + j'.val) / 128) + n.val / 128, by omega⟩ :=
      fun n => Fin.ext (by show 11 * (2 * p.val) + n.val / 128 = 11 * ((256 * p.val + j'.val) / 128) + n.val / 128; omega)
    rw [bwdCols, quarters_lo, bwdAcc_apply, bwd]
    refine congrArg₂ (· + ·) (Finset.sum_congr rfl fun n _ => ?_) (Finset.sum_congr rfl fun n _ => ?_)
    · rw [stackT_lo, scFT_eq]
      exact congrArg (fun z => x (ix2 r n) * s (ix3 0 0 z) * wf (ix3 0 ⟨256 * p.val + j'.val, by omega⟩ n)) (e n)
    · rw [stackT_lo, scBT_eq]
      exact congrArg (fun z => x (ix2 r n) * (0 - s (ix3 0 1 z)) * wb (ix3 0 ⟨256 * p.val + j'.val, by omega⟩ n)) (e n)
  · obtain ⟨j', rfl⟩ : ∃ j' : Fin 128, j = ⟨128 + j'.val, Nat.add_lt_add_left j'.isLt 128⟩ :=
      ⟨⟨j.val - 128, by omega⟩, Fin.ext (by show j.val = 128 + (j.val - 128); omega)⟩
    have hb : 256 * p.val + (128 + j'.val) < 2048 := by omega
    obtain rfl : k = ⟨256 * p.val + (128 + j'.val), hb⟩ := Fin.ext hk
    have e : ∀ n : Fin 1408, (⟨11 * (2 * p.val + 1) + n.val / 128, by omega⟩ : Fin 176)
        = ⟨11 * ((256 * p.val + (128 + j'.val)) / 128) + n.val / 128, by omega⟩ :=
      fun n => Fin.ext (by show 11 * (2 * p.val + 1) + n.val / 128 = 11 * ((256 * p.val + (128 + j'.val)) / 128) + n.val / 128; omega)
    rw [bwdCols, quarters_hi, bwdAcc_apply, bwd]
    refine congrArg₂ (· + ·) (Finset.sum_congr rfl fun n _ => ?_) (Finset.sum_congr rfl fun n _ => ?_)
    · rw [stackT_hi, scFT_eq]
      exact congrArg (fun z => x (ix2 r n) * s (ix3 0 0 z) * wf (ix3 0 ⟨256 * p.val + (128 + j'.val), by omega⟩ n)) (e n)
    · rw [stackT_hi, scBT_eq]
      exact congrArg (fun z => x (ix2 r n) * (0 - s (ix3 0 1 z)) * wb (ix3 0 ⟨256 * p.val + (128 + j'.val), by omega⟩ n)) (e n)

theorem unflat256_apply (a : FVec Ideal (Mat 72 256) .f32) (h) (r : Fin 72) (j : Fin 256) :
    shapeCast (Stk 1 72 256) a h (ix3 0 r j) = a (ix2 r j) := by
  pointwise

theorem rounded_apply (a : FVec Ideal (Mat 72 256) .f32) (h h') (hc) (r : Fin 72) (j : Fin 256) :
    shapeCast (Mat 72 256) (extf .f32 (truncf .bf16 a h) h') hc (ix2 r j) = a (ix2 r j) := by
  pointwise

/-- Every store holds the product at its columns. -/
theorem bwdPieces_at (r : Fin 72) (k : Fin 2048) :
    View.AllAt (bwdPieces sc hsc mf hmf mb hmb s wf wb x) (ix3 0 r k) (bwd s wf wb x r k) := by
  intro q hq
  obtain ⟨p, _, rfl⟩ := List.mem_map.1 hq
  refine (View.allAt_cons_unit _ _ _ _ [] (fun y hy => ?_) fun q hq => absurd hq List.not_mem_nil) _ List.mem_cons_self
  have h1 := hy 1
  have h2 := hy 2
  change r.val = 0 + (y 1 : Nat) at h1
  change k.val = 256 * p.val + (y 2 : Nat) at h2
  rw [eq_ix3 (n0 := 1) (n1 := 72) (n2 := 256) y 0 r (y 2) (by have : (y 0).val < 1 := (y 0).isLt; show (y 0).val = 0; omega) (by omega) rfl]
  exact (unflat256_apply ..).trans (bwdCols_apply sc hsc mf hmf mb hmb s wf wb x p r _ k h2)

theorem bwdPieces'_at (r : Fin 72) (k : Fin 2048) :
    View.AllAt (bwdPieces' sc hsc mf hmf mb hmb s wf wb x) (ix2 r k) (bwd s wf wb x r k) := by
  intro q hq
  obtain ⟨p, _, rfl⟩ := List.mem_map.1 hq
  refine (View.allAt_cons_unit _ _ _ _ [] (fun y hy => ?_) fun q hq => absurd hq List.not_mem_nil) _ List.mem_cons_self
  have h1 := hy 0
  have h2 := hy 1
  change r.val = 0 + (y 0 : Nat) at h1
  change k.val = 256 * p.val + (y 1 : Nat) at h2
  rw [eq_ix2 (n0 := 72) (n1 := 256) y r (y 1) (by omega) rfl]
  exact (rounded_apply ..).trans (bwdCols_apply sc hsc mf hmf mb hmb s wf wb x p r _ k h2)

end

end RSvd

end
-- ==== Proof.PowerBlock.lean ====
module
public import proofs.«01_k».proof.Proof.ApplyT
public import proofs.«01_k».proof.Proof.Gen.PowerIdeal.Frame

/-!
What one grid point of the second kernel leaves in its three blocks: the factor applied to the sketch's rows, the product of
those rows with the transposed codes and then with the codes, and the Gram matrix of that product.
-/

@[expose] public section

set_option maxRecDepth 65536

noncomputable section

namespace Cert.PowerIdeal.Block

open Cert.PowerIdeal Cert.PowerIdeal.Gen Idealize.ShloMosaic Idealize.ShloMosaic.TcCoe Idealize.SL.Sem RSvd

variable (c : Dev nD) (i : grid0.Coords) (arg1 : Memref sig .tc .smem S1x2x176 .f32) (harg1 : arg1.IsWhole) (arg2 : Memref sig .tc .vmem S1x2048x1408 .fp8e4m3) (harg2 : arg2.IsWhole) (arg3 : Memref sig .tc .vmem S1x2048x1408 .fp8e4m3) (harg3 : arg3.IsWhole) (arg4 : Memref sig .tc .vmem S1x72x1408 .f32) (harg4 : arg4.IsWhole) (arg5 : Memref sig .tc .vmem S1x72x72 .f32) (harg5 : arg5.IsWhole) (arg6 : Memref sig .tc .vmem S1x72x1408 .f32) (harg6 : arg6.IsWhole) (arg7 : Memref sig .tc .vmem S1x72x1408 .f32) (harg7 : arg7.IsWhole) (arg8 : Memref sig .tc .vmem S1x72x72 .f32) (harg8 : arg8.IsWhole) (arg9 : Memref sig .tc .vmem S72x2048 .f32) (harg9 : arg9.IsWhole)
    (x0 : Vec Ideal S1x2x176 .f32) (x1 : Vec Ideal S1x2048x1408 .fp8e4m3) (x2 : Vec Ideal S1x2048x1408 .fp8e4m3) (x3 : Vec Ideal S1x72x1408 .f32) (x4 : Vec Ideal S1x72x72 .f32)

/-- The factor, as the kernel reads it. -/
def factor : Vec Ideal S1x72x72 .f32 :=
  View.readAt (Elt Ideal) arg5.view (Rect.unit (s := S1x72x72) ![0, 0, 0] S1x72x72.size inb_S1x72x72_S1x72x72_0_0_0).toLoadRect (harg5.unread x4)

/-- The sketch's rows, as the kernel reads them. -/
def sketch : Vec Ideal S1x72x1408 .f32 :=
  View.readAt (Elt Ideal) arg4.view (Rect.unit (s := S1x72x1408) ![0, 0, 0] S1x72x1408.size inb_S1x72x1408_S1x72x1408_0_0_0).toLoadRect (harg4.unread x3)

theorem factor_eq : factor arg5 harg5 x4 = x4 := by
  unfold factor
  rw [readAt_whole arg5 harg5]

theorem sketch_eq : sketch arg4 harg4 x3 = x3 := by
  unfold sketch
  rw [readAt_whole arg4 harg4]

/-- The store into the first block. -/
theorem run_q : (kernelRun0_A c i arg1 harg1 arg2 harg2 arg3 harg3 arg4 harg4 arg5 harg5 arg6 harg6 arg7 harg7 arg8 harg8 arg9 harg9 x0 x1 x2 x3 x4).1
    = [⟨Rect.unit (s := S1x72x1408) ![0, 0, 0] S1x72x1408.size inb_S1x72x1408_S1x72x1408_0_0_0, k0_pay4 (factor arg5 harg5 x4) (sketch arg4 harg4 x3)⟩] := by
  sl_kernel_rfl

/-- The stores into the scratch matrix are the eight stores of the transposed product, rounded. -/
theorem run_z : (kernelRun0_A c i arg1 harg1 arg2 harg2 arg3 harg3 arg4 harg4 arg5 harg5 arg6 harg6 arg7 harg7 arg8 harg8 arg9 harg9 x0 x1 x2 x3 x4).2.2.2.1
    = bwdPieces' arg1 harg1 arg2 harg2 arg3 harg3 x0 x1 x2 (k0_pay5 (factor arg5 harg5 x4) (sketch arg4 harg4 x3)) := by
  sl_kernel_rfl

/-- The scratch matrix, as the kernel reads it back. -/
def middle : FVec Ideal (Mat 72 2048) .f32 :=
  arg9.view.readCov (kernelRun0_A c i arg1 harg1 arg2 harg2 arg3 harg3 arg4 harg4 arg5 harg5 arg6 harg6 arg7 harg7 arg8 harg8 arg9 harg9 x0 x1 x2 x3 x4).2.2.2.1 (Rect.unit (s := S72x2048) ![0, 0] S72x2048.size inb_S72x2048_S72x2048_0_0).toLoadRect

/-- The stores into the second block are the eleven stores of the product. -/
theorem run_y : (kernelRun0_A c i arg1 harg1 arg2 harg2 arg3 harg3 arg4 harg4 arg5 harg5 arg6 harg6 arg7 harg7 arg8 harg8 arg9 harg9 x0 x1 x2 x3 x4).2.1
    = fwdPieces arg1 harg1 arg2 harg2 arg3 harg3 x0 x1 x2 (middle c i arg1 harg1 arg2 harg2 arg3 harg3 arg4 harg4 arg5 harg5 arg6 harg6 arg7 harg7 arg8 harg8 arg9 harg9 x0 x1 x2 x3 x4) := by
  sl_kernel_rfl

/-- The store into the Gram matrix' block. -/
theorem run_g : (kernelRun0_A c i arg1 harg1 arg2 harg2 arg3 harg3 arg4 harg4 arg5 harg5 arg6 harg6 arg7 harg7 arg8 harg8 arg9 harg9 x0 x1 x2 x3 x4).2.2.1
    = [⟨Rect.unit (s := S1x72x72) ![0, 0, 0] S1x72x72.size inb_S1x72x72_S1x72x72_0_0_0,
        k0_pay2 (arg7.view.readCov (kernelRun0_A c i arg1 harg1 arg2 harg2 arg3 harg3 arg4 harg4 arg5 harg5 arg6 harg6 arg7 harg7 arg8 harg8 arg9 harg9 x0 x1 x2 x3 x4).2.1
          (Rect.unit (s := S1x72x1408) ![0, 0, 0] S1x72x1408.size inb_S1x72x1408_S1x72x1408_0_0_0).toLoadRect)⟩] := by
  sl_kernel_rfl

theorem pay4_apply (l : Vec Ideal S1x72x72 .f32) (y : Vec Ideal S1x72x1408 .f32) (r : Fin 72) (n : Fin 1408) :
    k0_pay4 l y (ix3 0 r n) = ∑ m : Fin 72, l (ix3 0 r m) * y (ix3 0 m n) := by
  pointwise [k0_pay4, k0_pay3]

theorem pay5_apply (l : Vec Ideal S1x72x72 .f32) (y : Vec Ideal S1x72x1408 .f32) (r : Fin 72) (n : Fin 1408) :
    k0_pay5 l y (ix2 r n) = ∑ m : Fin 72, l (ix3 0 r m) * y (ix3 0 m n) := by
  pointwise [k0_pay5, k0_pay3]

/-- The first block holds the factor applied to the sketch's rows. -/
theorem q_block (r : Fin 72) (n : Fin 1408) :
    out0_A_5 c i arg1 harg1 arg2 harg2 arg3 harg3 arg4 harg4 arg5 harg5 arg6 harg6 arg7 harg7 arg8 harg8 arg9 harg9 x0 x1 x2 x3 x4 (ix3 0 r n)
      = ∑ m : Fin 72, x4 (ix3 0 r m) * x3 (ix3 0 m n) := by
  have hz : (![0, 0, 0] : Fin 3 → Nat) = fun _ => 0 := by
    funext d; match d with | ⟨0, _⟩ => rfl | ⟨1, _⟩ => rfl | ⟨2, _⟩ => rfl
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4), run_q,
    View.canon_unit_zero (S := S1x72x1408) hz, factor_eq, sketch_eq, pay4_apply]

/-- Those stores cover the scratch matrix. -/
theorem cover_z (y : S72x2048.Idx) : ∃ pc ∈ (kernelRun0_A c i arg1 harg1 arg2 harg2 arg3 harg3 arg4 harg4 arg5 harg5 arg6 harg6 arg7 harg7 arg8 harg8 arg9 harg9 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).2.2.2.1 S72x256.size (by sl_kernel_rfl) y

/-- The scratch matrix holds the product of those rows with the transposed codes. -/
theorem middle_apply (r : Fin 72) (k : Fin 2048) : middle c i arg1 harg1 arg2 harg2 arg3 harg3 arg4 harg4 arg5 harg5 arg6 harg6 arg7 harg7 arg8 harg8 arg9 harg9 x0 x1 x2 x3 x4 (ix2 r k) = bwd x0 x1 x2 (k0_pay5 x4 x3) r k := by
  have hz : (![0, 0] : Fin 2 → Nat) = fun _ => 0 := by
    funext d; match d with | ⟨0, _⟩ => rfl | ⟨1, _⟩ => rfl
  unfold middle
  rw [View.readCov_eq_canon_ld _ _ _ fun y => cover_z c i arg1 harg1 arg2 harg2 arg3 harg3 arg4 harg4 arg5 harg5 arg6 harg6 arg7 harg7 arg8 harg8 arg9 harg9 x0 x1 x2 x3 x4 _, View.ld_unit_zero (S := S72x2048) hz]
  refine View.canon_eq_of_allAt _ _ _ (cover_z c i arg1 harg1 arg2 harg2 arg3 harg3 arg4 harg4 arg5 harg5 arg6 harg6 arg7 harg7 arg8 harg8 arg9 harg9 x0 x1 x2 x3 x4 _) ?_
  rw [run_z, factor_eq, sketch_eq]
  exact bwdPieces'_at arg1 harg1 arg2 harg2 arg3 harg3 x0 x1 x2 _ r k

theorem canon_y (r : Fin 72) (n : Fin 1408) : View.canon (kernelRun0_A c i arg1 harg1 arg2 harg2 arg3 harg3 arg4 harg4 arg5 harg5 arg6 harg6 arg7 harg7 arg8 harg8 arg9 harg9 x0 x1 x2 x3 x4).2.1 (ix3 0 r n)
    = fwd x0 x1 x2 (middle c i arg1 harg1 arg2 harg2 arg3 harg3 arg4 harg4 arg5 harg5 arg6 harg6 arg7 harg7 arg8 harg8 arg9 harg9 x0 x1 x2 x3 x4) r n := by
  refine View.canon_eq_of_allAt _ _ _ (cover0_A_6 c i arg1 harg1 arg2 harg2 arg3 harg3 arg4 harg4 arg5 harg5 arg6 harg6 arg7 harg7 arg8 harg8 arg9 harg9 x0 x1 x2 x3 x4 _) ?_
  rw [run_y]
  exact fwdPieces_at arg1 harg1 arg2 harg2 arg3 harg3 x0 x1 x2 _ r n

/-- The second block holds the product of the scratch matrix with the codes. -/
theorem y_block (r : Fin 72) (n : Fin 1408) :
    out0_A_6 c i arg1 harg1 arg2 harg2 arg3 harg3 arg4 harg4 arg5 harg5 arg6 harg6 arg7 harg7 arg8 harg8 arg9 harg9 x0 x1 x2 x3 x4 (ix3 0 r n) = fwd x0 x1 x2 (middle c i arg1 harg1 arg2 harg2 arg3 harg3 arg4 harg4 arg5 harg5 arg6 harg6 arg7 harg7 arg8 harg8 arg9 harg9 x0 x1 x2 x3 x4) r n := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4), canon_y]

theorem pay2_apply (Y : FVec Ideal S1x72x1408 .f32) (r t : Fin 72) :
    k0_pay2 Y (ix3 0 r t) = ∑ n : Fin 1408, Y (ix3 0 r n) * Y (ix3 0 t n) := by
  pointwise [k0_pay2]

/-- The Gram matrix' block holds the inner products of the product's rows. -/
theorem g_block (r t : Fin 72) : out0_A_7 c i arg1 harg1 arg2 harg2 arg3 harg3 arg4 harg4 arg5 harg5 arg6 harg6 arg7 harg7 arg8 harg8 arg9 harg9 x0 x1 x2 x3 x4 (ix3 0 r t)
    = ∑ n : Fin 1408, fwd x0 x1 x2 (middle c i arg1 harg1 arg2 harg2 arg3 harg3 arg4 harg4 arg5 harg5 arg6 harg6 arg7 harg7 arg8 harg8 arg9 harg9 x0 x1 x2 x3 x4) r n * fwd x0 x1 x2 (middle c i arg1 harg1 arg2 harg2 arg3 harg3 arg4 harg4 arg5 harg5 arg6 harg6 arg7 harg7 arg8 harg8 arg9 harg9 x0 x1 x2 x3 x4) t n := by
  have hz : (![0, 0, 0] : Fin 3 → Nat) = fun _ => 0 := by
    funext d; match d with | ⟨0, _⟩ => rfl | ⟨1, _⟩ => rfl | ⟨2, _⟩ => rfl
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4), run_g, View.canon_unit_zero (S := S1x72x72) hz,
    View.readCov_eq_canon_ld _ _ _ fun y => cover0_A_6 c i arg1 harg1 arg2 harg2 arg3 harg3 arg4 harg4 arg5 harg5 arg6 harg6 arg7 harg7 arg8 harg8 arg9 harg9 x0 x1 x2 x3 x4 _, View.ld_unit_zero (S := S1x72x1408) hz, pay2_apply]
  simp only [canon_y]

end Cert.PowerIdeal.Block

end
-- ==== Proof.SpecT.lean ====
module
public import proofs.«01_k».proof.Proof.ApplyT
public import proofs.«01_k».proof.Proof.Spec

/-!
The block product with transposed codes, as the product of one matrix of the stack.
-/

@[expose] public section

set_option maxRecDepth 65536

noncomputable section

namespace RSvd

open Idealize.ShloMosaic
open scoped BigOperators

/-- A block product with transposed codes is the product of its matrix. -/
theorem bwd_eq (cf cb : Vec Ideal (Stk 60 2048 1408) .fp8e4m3) (sf sb : Vec Ideal (Stk 60 16 11) .f32) (x : Fin 60 → Fin 72 → Fin 1408 → EReal)
    (s : Vec Ideal (Stk 1 2 176) .f32) (wf wb : Vec Ideal (Stk 1 2048 1408) .fp8e4m3) (z : FVec Ideal (Mat 72 1408) .f32) (b : Fin 60)
    (h0 : ∀ (j : Fin 16) (n : Fin 11), s (ix3 0 0 ⟨11 * j.val + n.val, by omega⟩) = sf (ix3 b j n))
    (h1 : ∀ (j : Fin 16) (n : Fin 11), s (ix3 0 1 ⟨11 * j.val + n.val, by omega⟩) = sb (ix3 b j n))
    (hf : ∀ k n, wf (ix3 0 k n) = cf (ix3 b k n)) (hb : ∀ k n, wb (ix3 0 k n) = cb (ix3 b k n))
    (hz : ∀ r n, z (ix2 r n) = x b r n) (r : Fin 72) (k : Fin 2048) :
    bwd s wf wb z r k = timesT cf cb sf sb x b r k := by
  unfold bwd timesT scaleAt
  congr 1 <;> refine Finset.sum_congr rfl fun n _ => ?_
  · rw [hz, hf, ← h0]
  · rw [hz, hb, ← h1]

/-- The rows of one block of the sketch combined by one block of the factor. -/
def rowsOf (l : Vec Ideal (Stk 1 72 72) .f32) (y : Vec Ideal (Stk 1 72 1408) .f32) (r : Fin 72) (n : Fin 1408) : EReal :=
  ∑ t : Fin 72, l (ix3 0 r t) * y (ix3 0 t n)

/-- They are the combined rows of its matrix. -/
theorem rowsOf_eq (l : Vec Ideal (Stk 1 72 72) .f32) (y : Vec Ideal (Stk 1 72 1408) .f32) (L : Fin 60 → Fin 72 → Fin 72 → EReal)
    (Y : Fin 60 → Fin 72 → Fin 1408 → EReal) (b : Fin 60) (hl : ∀ r t, l (ix3 0 r t) = L b r t) (hy : ∀ t n, y (ix3 0 t n) = Y b t n)
    (r : Fin 72) (n : Fin 1408) : rowsOf l y r n = combine L Y b r n := by
  unfold rowsOf combine
  exact Finset.sum_congr rfl fun t _ => congrArg₂ (· * ·) (hl r t) (hy t n)

end RSvd

end
-- ==== Proof.PowerArray.lean ====
module
public import proofs.«01_k».proof.Proof.PowerBlock
public import proofs.«01_k».proof.Proof.SpecT
public import Idealize.ShloMosaic.Lib.Claim

/-!
What the three results of the second kernel hold after the run, in terms of the arguments.
-/

@[expose] public section

set_option maxRecDepth 65536

noncomputable section

namespace Cert.PowerIdeal.Arr

open Cert.PowerIdeal Cert.PowerIdeal.Gen Idealize.ShloMosaic Idealize.ShloMosaic.TcCoe Idealize.SL.Sem RSvd
open Idealize.ShloMosaic.Pipeline (Dat)
open scoped BigOperators

variable (m : (ℓ : Loc nD τ sig) → Buf (Elt Ideal) ℓ) (ρ : Dev nD → PrngReg) (c : Dev nD)

abbrev cf : Vec Ideal S60x2048x1408 .fp8e4m3 := m ((c : Thread nD τ).loc main_arg0)
abbrev sf : Vec Ideal S60x16x11 .f32 := m ((c : Thread nD τ).loc main_arg1)
abbrev cb : Vec Ideal S60x2048x1408 .fp8e4m3 := m ((c : Thread nD τ).loc main_arg2)
abbrev sb : Vec Ideal S60x16x11 .f32 := m ((c : Thread nD τ).loc main_arg3)
abbrev yy : Vec Ideal S60x72x1408 .f32 := m ((c : Thread nD τ).loc main_arg4)
abbrev ll : Vec Ideal S60x72x72 .f32 := m ((c : Thread nD τ).loc main_arg5)
/-- The rows of the sketch combined by the factor. -/
def qs : Fin 60 → Fin 72 → Fin 1408 → EReal := combine (fun b r t => ll m c (ix3 b r t)) (fun b t n => yy m c (ix3 b t n))
/-- Those rows times the transposed difference. -/
def zs : Fin 60 → Fin 72 → Fin 2048 → EReal := timesT (cf m c) (cb m c) (sf m c) (sb m c) (qs m c)

/-- The grid point of matrix `b`. -/
abbrev pt (b : Fin 60) : Fin cfg0.N := ⟨b.val, by have h : cfg0.N = 60 := N_0; omega⟩

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![t.val, 0, 0] := (by decide +kernel : ∀ t : Fin grid0.N, win0_5.index t = ![t.val, 0, 0])
theorem idx6 : ∀ t : Fin cfg0.N, win0_6.index t = ![t.val, 0, 0] := (by decide +kernel : ∀ t : Fin grid0.N, win0_6.index t = ![t.val, 0, 0])
theorem idx7 : ∀ t : Fin cfg0.N, win0_7.index t = ![t.val, 0, 0] := (by decide +kernel : ∀ t : Fin grid0.N, win0_7.index t = ![t.val, 0, 0])

/-! ## What the kernel reads at a grid point -/

/-- The block of scales at a grid point is a member of the stack the host built. -/
theorem s_apply (b : Fin 60) (a : Fin 2) (k : Fin 176) : iblk m c 0 (pt b) (ix3 0 a k) = V m c main_v6 (ix3 b a k) :=
  congrArg (V m c main_v6) (at_member _ b (idx0 (pt b)) a k rfl rfl rfl)

/-- The block of first codes at a grid point is its matrix. -/
theorem wf_apply (b : Fin 60) (k : Fin 2048) (n : Fin 1408) : iblk m c 1 (pt b) (ix3 0 k n) = cf m c (ix3 b k n) := by
  rw [cf, ← V_main_arg0 m c]
  exact congrArg (V m c main_arg0) (at_member _ b (idx1 (pt b)) k n rfl rfl rfl)

/-- The block of second codes likewise. -/
theorem wb_apply (b : Fin 60) (k : Fin 2048) (n : Fin 1408) : iblk m c 2 (pt b) (ix3 0 k n) = cb m c (ix3 b k n) := by
  rw [cb, ← V_main_arg2 m c]
  exact congrArg (V m c main_arg2) (at_member _ b (idx2 (pt b)) k n rfl rfl rfl)

/-- The block of the sketch likewise. -/
theorem y_apply (b : Fin 60) (r : Fin 72) (n : Fin 1408) : iblk m c 3 (pt b) (ix3 0 r n) = yy m c (ix3 b r n) := by
  rw [yy, ← V_main_arg4 m c]
  exact congrArg (V m c main_arg4) (at_member _ b (idx3 (pt b)) r n rfl rfl rfl)

/-- The block of the factor likewise. -/
theorem l_apply (b : Fin 60) (r : Fin 72) (t : Fin 72) : iblk m c 4 (pt b) (ix3 0 r t) = ll m c (ix3 b r t) := by
  rw [ll, ← V_main_arg5 m c]
  exact congrArg (V m c main_arg5) (at_member _ b (idx4 (pt b)) r t rfl rfl rfl)

/-- The host's stack of scales: row 0 has the first codes' scales, … -/
theorem stack_f (b : Fin 60) (j : Fin 16) (n : Fin 11) : V m c main_v6 (ix3 b 0 ⟨11 * j.val + n.val, by omega⟩) = sf m c (ix3 b j n) := by
  show StableHlo.after hostOps0 (fun b => m (c, b)) (Proc.devRef .tc main_v6) _ = _
  entry_read
  pointwise
  exact congrArg₂ (fun p q => sf m c (ix3 b p q)) (flat_row j n _) (flat_col j n _)

/-- … row 1 the second codes'. -/
theorem stack_b (b : Fin 60) (j : Fin 16) (n : Fin 11) : V m c main_v6 (ix3 b 1 ⟨11 * j.val + n.val, by omega⟩) = sb m c (ix3 b j n) := by
  show StableHlo.after hostOps0 (fun b => m (c, b)) (Proc.devRef .tc main_v6) _ = _
  entry_read
  pointwise
  exact congrArg₂ (fun p q => sb m c (ix3 b p q)) (flat_row j n _) (flat_col j n _)

/-- The combined rows at a grid point are the combined rows of its matrix. -/
theorem q_eq (b : Fin 60) (r : Fin 72) (n : Fin 1408) :
    rowsOf (iblk m c 4 (pt b)) (iblk m c 3 (pt b)) r n = qs m c b r n :=
  rowsOf_eq _ _ _ _ b (l_apply m c b) (y_apply m c b) r n

/-- The product with the transposed codes at a grid point is the product of its matrix. -/
theorem bwd_block (b : Fin 60) (r : Fin 72) (k : Fin 2048) :
    bwd (iblk m c 0 (pt b)) (iblk m c 1 (pt b)) (iblk m c 2 (pt b)) (k0_pay5 (iblk m c 4 (pt b)) (iblk m c 3 (pt b))) r k
      = timesT (cf m c) (cb m c) (sf m c) (sb m c) (qs m c) b r k :=
  bwd_eq _ _ _ _ _ _ _ _ _ b (fun j n => (s_apply m c b _ _).trans (stack_f m c b j n)) (fun j n => (s_apply m c b _ _).trans (stack_b m c b j n))
    (wf_apply m c b) (wb_apply m c b) (fun r n => (Block.pay5_apply ..).trans (q_eq m c b r n)) r k

/-- The product of those with the codes likewise. -/
theorem fwd_block (b : Fin 60) (z : FVec Ideal (Mat 72 2048) .f32) (hz : ∀ r k, z (ix2 r k) = zs m c b r k) (r : Fin 72) (n : Fin 1408) :
    fwd (iblk m c 0 (pt b)) (iblk m c 1 (pt b)) (iblk m c 2 (pt b)) z r n = times (cf m c) (cb m c) (sf m c) (sb m c) (zs m c) b r n :=
  fwd_eq _ _ _ _ _ _ _ _ _ b (fun j n => (s_apply m c b _ _).trans (stack_f m c b j n)) (fun j n => (s_apply m c b _ _).trans (stack_b m c b j n))
    (wf_apply m c b) (wb_apply m c b) hz r n

/-! ## The result arrays: a block of one is what its grid point wrote -/

theorem idx_inj5 : ∀ t t' : Fin cfg0.N, win0_5.index t = win0_5.index t' → t = t' :=
  (by decide +kernel : ∀ t t' : Fin grid0.N, win0_5.index t = win0_5.index t' → t = t')

theorem block5 (t : Fin cfg0.N) :
    ((cfg0.win 5).blk t).view.read (Elt Ideal) ((dats m 0 c).arrAt 5 cfg0.N) = (cfg0.win 5).cut (grid0.coords t) (outsAt0 m c t).1 :=
  ((dats m 0 c).read_blk_arrAt_eq_flushed 5 (fun t t' _ _ hne => (cfg0.win 5).disjoint_blk fun h => hne (idx_inj5 t t' h)) cfg0.N t t.isLt (flush0_5 _)).trans
    (congrArg ((cfg0.win 5).cut (grid0.coords t)) (after0_5 m c t))

theorem idx_inj6 : ∀ t t' : Fin cfg0.N, win0_6.index t = win0_6.index t' → t = t' :=
  (by decide +kernel : ∀ t t' : Fin grid0.N, win0_6.index t = win0_6.index t' → t = t')

theorem block6 (t : Fin cfg0.N) :
    ((cfg0.win 6).blk t).view.read (Elt Ideal) ((dats m 0 c).arrAt 6 cfg0.N) = (cfg0.win 6).cut (grid0.coords t) (outsAt0 m c t).2.1 :=
  ((dats m 0 c).read_blk_arrAt_eq_flushed 6 (fun t t' _ _ hne => (cfg0.win 6).disjoint_blk fun h => hne (idx_inj6 t t' h)) cfg0.N t t.isLt (flush0_6 _)).trans
    (congrArg ((cfg0.win 6).cut (grid0.coords t)) (after0_6 m c t))

theorem idx_inj7 : ∀ t t' : Fin cfg0.N, win0_7.index t = win0_7.index t' → t = t' :=
  (by decide +kernel : ∀ t t' : Fin grid0.N, win0_7.index t = win0_7.index t' → t = t')

theorem block7 (t : Fin cfg0.N) :
    ((cfg0.win 7).blk t).view.read (Elt Ideal) ((dats m 0 c).arrAt 7 cfg0.N) = (cfg0.win 7).cut (grid0.coords t) (outsAt0 m c t).2.2 :=
  ((dats m 0 c).read_blk_arrAt_eq_flushed 7 (fun t t' _ _ hne => (cfg0.win 7).disjoint_blk fun h => hne (idx_inj7 t t' h)) cfg0.N t t.isLt (flush0_7 _)).trans
    (congrArg ((cfg0.win 7).cut (grid0.coords t)) (after0_7 m c t))

theorem q_array (b : Fin 60) (r : Fin 72) (n : Fin 1408) :
    (dats m 0 c).arrAt 5 cfg0.N (ix3 b r n) = qs m c b r n := by
  have h := congrFun (block5 m c (pt b)) (ix3 0 r n)
  simp only [outsAt0] at h
  refine Eq.trans (congrArg ((dats m 0 c).arrAt 5 cfg0.N) (at_member _ b (idx5 (pt b)) r n rfl rfl rfl).symm) (h.trans ?_)
  exact (Block.q_block ..).trans (q_eq m c b r n)

theorem y_array (b : Fin 60) (r : Fin 72) (n : Fin 1408) :
    (dats m 0 c).arrAt 6 cfg0.N (ix3 b r n) = times (cf m c) (cb m c) (sf m c) (sb m c) (zs m c) b r n := by
  have h := congrFun (block6 m c (pt b)) (ix3 0 r n)
  simp only [outsAt0] at h
  refine Eq.trans (congrArg ((dats m 0 c).arrAt 6 cfg0.N) (at_member _ b (idx6 (pt b)) r n rfl rfl rfl).symm) (h.trans ?_)
  exact (Block.y_block ..).trans (fwd_block m c b _ (fun r k => (Block.middle_apply ..).trans (bwd_block m c b r k)) r n)

theorem g_array (b : Fin 60) (r : Fin 72) (t : Fin 72) :
    (dats m 0 c).arrAt 7 cfg0.N (ix3 b r t) = gram (times (cf m c) (cb m c) (sf m c) (sb m c) (zs m c)) b r t := by
  have h := congrFun (block7 m c (pt b)) (ix3 0 r t)
  simp only [outsAt0] at h
  refine Eq.trans (congrArg ((dats m 0 c).arrAt 7 cfg0.N) (at_member _ b (idx7 (pt b)) r t rfl rfl rfl).symm) (h.trans ?_)
  refine (Block.g_block ..).trans ?_
  unfold gram
  exact Finset.sum_congr rfl fun n _ => congrArg₂ (· * ·) (fwd_block m c b _ (fun r k => (Block.middle_apply ..).trans (bwd_block m c b r k)) r n)
    (fwd_block m c b _ (fun r k => (Block.middle_apply ..).trans (bwd_block m c b r k)) t n)

theorem arrays_inj : Function.Injective (Pipeline.arrRef spec0) := by decide

/-- The host transposes the first result. -/
theorem q_host (b : Fin 60) (n : Fin 1408) (r : Fin 72) :
    Pipeline.afterTail₀ cfgs (dats m) 0 (V0 m) [hostOps1] c main_v8 (ix3 b n r) = qs m c b r n := by
  refine Eq.trans ?_ (q_array m c b r n)
  show StableHlo.after hostOps1 (Pipeline.withArrays spec0 c (V0 m c) fun w => (dats m 0 c).arrAt w cfg0.N) (Proc.devRef .tc main_v8) (ix3 b n r) = _
  entry_read
  pointwise
  exact congrFun (Pipeline.withArrays_arr spec0 arrays_inj c (V0 m c) (fun w => (dats m 0 c).arrAt w cfg0.N) 5) _

/-- The run with the results named. -/
theorem run_arrays : θ_run defs (onTc (τ := τ) (main (F := Ideal))) ⟨m, fun _ => 0, ρ⟩ fun r => ∀ c : Dev nD,
      r.2.mem ((c : Thread nD τ).loc main_v8) = Pipeline.afterTail₀ cfgs (dats m) 0 (V0 m) [hostOps1] c main_v8
      ∧ r.2.mem ((c : Thread nD τ).loc main_v7_1) = (dats m 0 c).arrAt 6 cfg0.N
      ∧ r.2.mem ((c : Thread nD τ).loc main_v7_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have both := θ_run_and (run_main m ρ) (unchanged m ρ)
  exact (θ_run defs _ _).mono (fun r h c => ⟨(h.1 c).2 main_v8 (Pipeline.mem_restRefs_of main_v8 (by decide) (by decide)),
    (h.1 c).1 6, (h.1 c).1 7, h.2 c⟩) both

end Cert.PowerIdeal.Arr

end
-- ==== Proof.PowerRef.lean ====
module
public import proofs.«01_k».proof.Proof.Spec
public import proofs.«01_k».proof.Proof.Gen.PowerReferenceIdeal.Value
public import Idealize.ShloMosaic.Lib.Claim

/-!
What the second reference computes, in terms of its arguments.
-/

@[expose] public section

set_option maxRecDepth 65536

noncomputable section

namespace Cert.PowerReferenceIdeal.Arr

open Cert.PowerReferenceIdeal Cert.PowerReferenceIdeal.Gen Idealize.ShloMosaic Idealize.ShloMosaic.TcCoe Idealize.SL.Sem RSvd
open Idealize.ShloMosaic.Pipeline (Dat)
open scoped BigOperators

variable (m : (ℓ : Loc nD τ sig) → Buf (Elt Ideal) ℓ) (ρ : Dev nD → PrngReg) (c : Dev nD)

abbrev cf : Vec Ideal S60x2048x1408 .fp8e4m3 := m ((c : Thread nD τ).loc main_arg0)
abbrev sf : Vec Ideal S60x16x11 .f32 := m ((c : Thread nD τ).loc main_arg1)
abbrev cb : Vec Ideal S60x2048x1408 .fp8e4m3 := m ((c : Thread nD τ).loc main_arg2)
abbrev sb : Vec Ideal S60x16x11 .f32 := m ((c : Thread nD τ).loc main_arg3)
abbrev yy : Vec Ideal S60x72x1408 .f32 := m ((c : Thread nD τ).loc main_arg4)
abbrev ll : Vec Ideal S60x72x72 .f32 := m ((c : Thread nD τ).loc main_arg5)
/-- The rows of the sketch combined by the factor. -/
def qs : Fin 60 → Fin 72 → Fin 1408 → EReal := combine (fun b r t => ll m c (ix3 b r t)) (fun b t n => yy m c (ix3 b t n))
/-- Those rows times the transposed difference. -/
def zs : Fin 60 → Fin 72 → Fin 2048 → EReal := timesT (cf m c) (cb m c) (sf m c) (sb m c) (qs m c)

/-- The one grid point. -/
abbrev pt : Fin cfg0.N := ⟨0, by have h : cfg0.N = 1 := N_0; omega⟩

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0, 0] := (by decide +kernel : ∀ t : Fin grid0.N, win0_8.index t = ![0, 0, 0])

/-! ## What the body reads -/

theorem in0 : iblk m c 0 pt = cf m c := by
  rw [cf, ← V_main_arg0 m c]
  exact stk_ext (B := 60) (m := 2048) (n := 1408) _ _ fun b r k => congrArg (V m c main_arg0) (at_whole _ (idx0 pt) b r k rfl rfl rfl)

/-- The host repeats every scale over its block. -/
theorem in1 (b : Fin 60) (k : Fin 2048) (n : Fin 1408) : iblk m c 1 pt (ix3 b k n) = scaleAt (sf m c) b k n := by
  refine Eq.trans (congrArg (V m c main_v3) (at_whole _ (idx1 pt) b k n rfl rfl rfl)) ?_
  entry_read
  pointwise [scaleAt]

theorem in2 : iblk m c 2 pt = cb m c := by
  rw [cb, ← V_main_arg2 m c]
  exact stk_ext (B := 60) (m := 2048) (n := 1408) _ _ fun b r k => congrArg (V m c main_arg2) (at_whole _ (idx2 pt) b r k rfl rfl rfl)

theorem in3 (b : Fin 60) (k : Fin 2048) (n : Fin 1408) : iblk m c 3 pt (ix3 b k n) = scaleAt (sb m c) b k n := by
  refine Eq.trans (congrArg (V m c main_v7) (at_whole _ (idx3 pt) b k n rfl rfl rfl)) ?_
  entry_read
  pointwise [scaleAt]

theorem in4 : iblk m c 4 pt = yy m c := by
  rw [yy, ← V_main_arg4 m c]
  exact stk_ext (B := 60) (m := 72) (n := 1408) _ _ fun b r k => congrArg (V m c main_arg4) (at_whole _ (idx4 pt) b r k rfl rfl rfl)

theorem in5 : iblk m c 5 pt = ll m c := by
  rw [ll, ← V_main_arg5 m c]
  exact stk_ext (B := 60) (m := 72) (n := 72) _ _ fun b r k => congrArg (V m c main_arg5) (at_whole _ (idx5 pt) b r k rfl rfl rfl)

/-! ## What it computes -/

theorem pay2_apply (l y) (b : Fin 60) (r : Fin 72) (n : Fin 1408) :
    k0_pay2 (F := Ideal) l y (ix3 b r n) = ∑ t : Fin 72, l (ix3 b r t) * y (ix3 b t n) := by
  pointwise [k0_pay2]

/-- The combined rows. -/
theorem q_eq (b : Fin 60) (r : Fin 72) (n : Fin 1408) : k0_pay2 (F := Ideal) (iblk m c 5 pt) (iblk m c 4 pt) (ix3 b r n) = qs m c b r n := by
  rw [pay2_apply, in4, in5]
  rfl

/-- The combined rows times the transposed difference of the scaled codes. -/
def zOf (v0 : Vec Ideal S60x2048x1408 .fp8e4m3) (v2 : Vec Ideal S60x2048x1408 .bf16) (v5 : Vec Ideal S60x2048x1408 .fp8e4m3)
    (v7 : Vec Ideal S60x2048x1408 .bf16) (l : Vec Ideal S60x72x72 .f32) (y : Vec Ideal S60x72x1408 .f32) (b : Fin 60) (r : Fin 72) (k : Fin 2048) : EReal :=
  (∑ n : Fin 1408, k0_pay2 (F := Ideal) l y (ix3 b r n) * (v0 (ix3 b k n) * v2 (ix3 b k n)))
    + ∑ n : Fin 1408, k0_pay2 (F := Ideal) l y (ix3 b r n) * (0 - v5 (ix3 b k n) * v7 (ix3 b k n))

/-- Those rows times the difference. -/
theorem pay3_apply (v0 v2 v5 v7 l y) (b : Fin 60) (r : Fin 72) (n : Fin 1408) : k0_pay3 (F := Ideal) v0 v2 v5 v7 l y (ix3 b r n)
    = (∑ k : Fin 2048, zOf v0 v2 v5 v7 l y b r k * (v0 (ix3 b k n) * v2 (ix3 b k n)))
      + ∑ k : Fin 2048, zOf v0 v2 v5 v7 l y b r k * (0 - v5 (ix3 b k n) * v7 (ix3 b k n)) := by
  unfold zOf
  pointwise [k0_pay3]

/-- The inner products of the rows of a stack. -/
theorem inner_apply (v : FVec Ideal S60x72x1408 .f32) (b : Fin 60) (r t : Fin 72) :
    k0_pay1 (F := Ideal) v (constant S60x72x72 .f32 0x00000000#32) (ix3 b r t) = ∑ n : Fin 1408, v (ix3 b r n) * v (ix3 b t n) := by
  pointwise [k0_pay1]

/-- The stored combined rows are transposed. -/
theorem stored_apply (l y) (b : Fin 60) (r : Fin 72) (n : Fin 1408) :
    k0_pay4 (F := Ideal) l y (ix3 b n r) = k0_pay2 (F := Ideal) l y (ix3 b r n) := by
  pointwise [k0_pay4]

/-- The inner product is the transposed product of every matrix. -/
theorem middle (b : Fin 60) (r : Fin 72) (k : Fin 2048) :
    zOf (iblk m c 0 pt) (iblk m c 1 pt) (iblk m c 2 pt) (iblk m c 3 pt) (iblk m c 5 pt) (iblk m c 4 pt) b r k
      = zs m c b r k := by
  unfold zOf zs timesT
  congr 1 <;> refine Finset.sum_congr rfl fun n _ => ?_
  · rw [q_eq, in0, in1, term_eq]
  · rw [q_eq, in2, in3, term_neg_eq]

/-- The body's product is the product of every matrix. -/
theorem product (b : Fin 60) (r : Fin 72) (n : Fin 1408) :
    k0_pay3 (F := Ideal) (iblk m c 0 pt) (iblk m c 1 pt) (iblk m c 2 pt) (iblk m c 3 pt) (iblk m c 5 pt) (iblk m c 4 pt) (ix3 b r n)
      = times (cf m c) (cb m c) (sf m c) (sb m c) (zs m c) b r n := by
  refine (pay3_apply ..).trans ?_
  unfold times
  refine congrArg₂ (· + ·) (Finset.sum_congr rfl fun k _ => ?_) (Finset.sum_congr rfl fun k _ => ?_)
  · rw [middle, in0, in1, term_eq]
  · rw [middle, in2, in3, term_neg_eq]

/-- The inner products of its rows. -/
theorem inner (b : Fin 60) (r t : Fin 72) :
    k0_pay1 (F := Ideal) (k0_pay3 (F := Ideal) (iblk m c 0 pt) (iblk m c 1 pt) (iblk m c 2 pt) (iblk m c 3 pt) (iblk m c 5 pt) (iblk m c 4 pt))
      (constant S60x72x72 .f32 0x00000000#32) (ix3 b r t)
      = gram (times (cf m c) (cb m c) (sf m c) (sb m c) (zs m c)) b r t := by
  rw [inner_apply]
  unfold gram
  exact Finset.sum_congr rfl fun n _ => congrArg₂ (· * ·) (product m c b r n) (product m c b t n)

theorem q_array (b : Fin 60) (r : Fin 72) (n : Fin 1408) :
    (dats m 0 c).arrAt 6 cfg0.N (ix3 b n r) = qs m c b r n := by
  have h := congrFun (Value.blocks6 m c pt (flush0_6 _)) (ix3 b n r)
  rw [Value.flushed6] at h
  refine Eq.trans (congrArg ((dats m 0 c).arrAt 6 cfg0.N) (at_whole _ (idx6 pt) b n r rfl rfl rfl).symm) (h.trans ?_)
  refine Eq.trans ?_ ((stored_apply ..).trans (q_eq m c b r n))
  show out0_6 _ _ _ _ _ _ (ix3 b n r) = _
  unfold out0_6
  rw [View.canon_unit_zero (S := S60x1408x72) hz3,
    View.ld_unit_zero (S := S60x72x72) hz3, View.ld_unit_zero (S := S60x72x1408) hz3]

theorem y_array (b : Fin 60) (r : Fin 72) (n : Fin 1408) :
    (dats m 0 c).arrAt 7 cfg0.N (ix3 b r n) = times (cf m c) (cb m c) (sf m c) (sb m c) (zs m c) b r n := by
  have h := congrFun (Value.blocks7 m c pt (flush0_7 _)) (ix3 b r n)
  rw [Value.flushed7] at h
  refine Eq.trans (congrArg ((dats m 0 c).arrAt 7 cfg0.N) (at_whole _ (idx7 pt) b r n rfl rfl rfl).symm) (h.trans ?_)
  refine Eq.trans ?_ (product m c b r n)
  show out0_7 _ _ _ _ _ _ (ix3 b r n) = _
  unfold out0_7
  rw [View.canon_unit_zero (S := S60x72x1408) hz3,
    View.ld_unit_zero (S := S60x2048x1408) hz3, View.ld_unit_zero (S := S60x2048x1408) hz3, View.ld_unit_zero (S := S60x2048x1408) hz3, View.ld_unit_zero (S := S60x2048x1408) hz3,
    View.ld_unit_zero (S := S60x72x72) hz3, View.ld_unit_zero (S := S60x72x1408) hz3]

theorem g_array (b : Fin 60) (r : Fin 72) (t : Fin 72) :
    (dats m 0 c).arrAt 8 cfg0.N (ix3 b r t) = gram (times (cf m c) (cb m c) (sf m c) (sb m c) (zs m c)) b r t := by
  have h := congrFun (Value.blocks8 m c pt (flush0_8 _)) (ix3 b r t)
  rw [Value.flushed8] at h
  refine Eq.trans (congrArg ((dats m 0 c).arrAt 8 cfg0.N) (at_whole _ (idx8 pt) b r t rfl rfl rfl).symm) (h.trans ?_)
  refine Eq.trans ?_ (inner m c b r t)
  show out0_8 _ _ _ _ _ _ (ix3 b r t) = _
  unfold out0_8
  rw [View.canon_unit_zero (S := S60x72x72) hz3,
    View.ld_unit_zero (S := S60x2048x1408) hz3, View.ld_unit_zero (S := S60x2048x1408) hz3, View.ld_unit_zero (S := S60x2048x1408) hz3, View.ld_unit_zero (S := S60x2048x1408) hz3,
    View.ld_unit_zero (S := S60x72x72) hz3, View.ld_unit_zero (S := S60x72x1408) hz3]

end Cert.PowerReferenceIdeal.Arr

end
-- ==== Proof.PowerClaim.lean ====
module
public import proofs.«01_k».proof.Defs
public import proofs.«01_k».proof.Proof.PowerArray
public import proofs.«01_k».proof.Proof.PowerRef

/-!
The second kernel computes what its reference computes: all three results, for all arguments.
-/

@[expose] public section

noncomputable section

namespace Cert.Proof

open Idealize.ShloMosaic Idealize.ShloMosaic.TcCoe Idealize.SL.Sem RSvd

theorem algebraic_power : Cert.algebraic_PowerIdeal_PowerReferenceIdeal := by
  intro m g m' g' _ hargs
  refine ⟨fun c => Pipeline.afterTail₀ Cert.PowerIdeal.cfgs (Cert.PowerIdeal.Gen.dats m) 0 (Cert.PowerIdeal.Gen.V0 m) [Cert.PowerIdeal.Gen.hostOps1] c Cert.PowerIdeal.main_v8, fun c => (Cert.PowerIdeal.Gen.dats m 0 c).arrAt 6 Cert.PowerIdeal.cfg0.N, fun c => (Cert.PowerIdeal.Gen.dats m 0 c).arrAt 7 Cert.PowerIdeal.cfg0.N,
    Cert.PowerIdeal.Arr.run_arrays m g, (θ_run _ _ _).mono (fun r h c => ?_) (Cert.PowerReferenceIdeal.Value.run_blocks m' g')⟩
  obtain ⟨h0, h1, h2, h⟩ := h c
  obtain ⟨a0, a1, a2, a3, a4, a5⟩ := hargs c
  have eq : Cert.PowerReferenceIdeal.Arr.qs m' c = Cert.PowerIdeal.Arr.qs m c := by
    unfold Cert.PowerReferenceIdeal.Arr.qs Cert.PowerIdeal.Arr.qs
    exact congr (congrArg combine (funext fun b => funext fun r => funext fun t => congrFun a5 (ix3 b r t)))
      (funext fun b => funext fun t => funext fun n => congrFun a4 (ix3 b t n))
  have eb : timesT (Cert.PowerReferenceIdeal.Arr.cf m' c) (Cert.PowerReferenceIdeal.Arr.cb m' c) (Cert.PowerReferenceIdeal.Arr.sf m' c) (Cert.PowerReferenceIdeal.Arr.sb m' c) (Cert.PowerReferenceIdeal.Arr.qs m' c)
      = timesT (Cert.PowerIdeal.Arr.cf m c) (Cert.PowerIdeal.Arr.cb m c) (Cert.PowerIdeal.Arr.sf m c) (Cert.PowerIdeal.Arr.sb m c) (Cert.PowerIdeal.Arr.qs m c) := by
    rw [eq]
    exact congr (congr (congr (congrArg timesT a0) a2) a1) a3 |> (congrFun · _)
  have ez : Cert.PowerReferenceIdeal.Arr.zs m' c = Cert.PowerIdeal.Arr.zs m c := eb
  have ey : times (Cert.PowerReferenceIdeal.Arr.cf m' c) (Cert.PowerReferenceIdeal.Arr.cb m' c) (Cert.PowerReferenceIdeal.Arr.sf m' c) (Cert.PowerReferenceIdeal.Arr.sb m' c) (Cert.PowerReferenceIdeal.Arr.zs m' c)
      = times (Cert.PowerIdeal.Arr.cf m c) (Cert.PowerIdeal.Arr.cb m c) (Cert.PowerIdeal.Arr.sf m c) (Cert.PowerIdeal.Arr.sb m c) (Cert.PowerIdeal.Arr.zs m c) := by
    rw [ez]
    exact congr (congr (congr (congrArg times a0) a2) a1) a3 |> (congrFun · _)
  refine ⟨h0.trans ?_, h1.trans ?_, h2.trans ?_, h⟩
  · refine stk_ext (B := 60) (m := 1408) (n := 72) _ _ fun b n r => ?_
    exact (Cert.PowerReferenceIdeal.Arr.q_array m' c b r n).trans ((congrFun (congrFun (congrFun eq b) r) n).trans (Cert.PowerIdeal.Arr.q_host m c b n r).symm)
  · refine stk_ext (B := 60) (m := 72) (n := 1408) _ _ fun b r n => ?_
    exact (Cert.PowerReferenceIdeal.Arr.y_array m' c b r n).trans ((congrFun (congrFun (congrFun ey b) r) n).trans (Cert.PowerIdeal.Arr.y_array m c b r n).symm)
  · refine stk_ext (B := 60) (m := 72) (n := 72) _ _ fun b r n => ?_
    exact (Cert.PowerReferenceIdeal.Arr.g_array m' c b r n).trans ((congrFun (congrFun (congrFun (congrArg gram ey) b) r) n).trans (Cert.PowerIdeal.Arr.g_array m c b r n).symm)

end Cert.Proof

end
-- ==== Proof.ProjectBlock.lean ====
module
public import proofs.«01_k».proof.Proof.ApplyT
public import proofs.«01_k».proof.Proof.Gen.ProjectIdeal.Frame

/-!
What one grid point of the last kernel leaves in its two blocks: the factor applied to the sketch's rows, and the product of
those rows with the transposed codes.
-/

@[expose] public section

set_option maxRecDepth 65536

noncomputable section

namespace Cert.ProjectIdeal.Block

open Cert.ProjectIdeal Cert.ProjectIdeal.Gen Idealize.ShloMosaic Idealize.ShloMosaic.TcCoe Idealize.SL.Sem RSvd

variable (c : Dev nD) (i : grid0.Coords) (arg1 : Memref sig .tc .smem S1x2x176 .f32) (harg1 : arg1.IsWhole) (arg2 : Memref sig .tc .vmem S1x2048x1408 .fp8e4m3) (harg2 : arg2.IsWhole) (arg3 : Memref sig .tc .vmem S1x2048x1408 .fp8e4m3) (harg3 : arg3.IsWhole) (arg4 : Memref sig .tc .vmem S1x72x1408 .f32) (harg4 : arg4.IsWhole) (arg5 : Memref sig .tc .vmem S1x72x72 .f32) (harg5 : arg5.IsWhole) (arg6 : Memref sig .tc .vmem S1x72x1408 .f32) (harg6 : arg6.IsWhole) (arg7 : Memref sig .tc .vmem S1x72x2048 .f32) (harg7 : arg7.IsWhole)
    (x0 : Vec Ideal S1x2x176 .f32) (x1 : Vec Ideal S1x2048x1408 .fp8e4m3) (x2 : Vec Ideal S1x2048x1408 .fp8e4m3) (x3 : Vec Ideal S1x72x1408 .f32) (x4 : Vec Ideal S1x72x72 .f32)

/-- The factor, as the kernel reads it. -/
def factor : Vec Ideal S1x72x72 .f32 :=
  View.readAt (Elt Ideal) arg5.view (Rect.unit (s := S1x72x72) ![0, 0, 0] S1x72x72.size inb_S1x72x72_S1x72x72_0_0_0).toLoadRect (harg5.unread x4)

/-- The sketch's rows, as the kernel reads them. -/
def sketch : Vec Ideal S1x72x1408 .f32 :=
  View.readAt (Elt Ideal) arg4.view (Rect.unit (s := S1x72x1408) ![0, 0, 0] S1x72x1408.size inb_S1x72x1408_S1x72x1408_0_0_0).toLoadRect (harg4.unread x3)

theorem factor_eq : factor arg5 harg5 x4 = x4 := by
  unfold factor
  rw [readAt_whole arg5 harg5]

theorem sketch_eq : sketch arg4 harg4 x3 = x3 := by
  unfold sketch
  rw [readAt_whole arg4 harg4]

/-- The store into the first block. -/
theorem run_q : (kernelRun0_A c i arg1 harg1 arg2 harg2 arg3 harg3 arg4 harg4 arg5 harg5 arg6 harg6 arg7 harg7 x0 x1 x2 x3 x4).1
    = [⟨Rect.unit (s := S1x72x1408) ![0, 0, 0] S1x72x1408.size inb_S1x72x1408_S1x72x1408_0_0_0, k0_pay4 (factor arg5 harg5 x4) (sketch arg4 harg4 x3)⟩] := by
  sl_kernel_rfl

/-- The stores into the second block are the eight stores of the product. -/
theorem run_b : (kernelRun0_A c i arg1 harg1 arg2 harg2 arg3 harg3 arg4 harg4 arg5 harg5 arg6 harg6 arg7 harg7 x0 x1 x2 x3 x4).2.1
    = bwdPieces arg1 harg1 arg2 harg2 arg3 harg3 x0 x1 x2 (k0_pay5 (factor arg5 harg5 x4) (sketch arg4 harg4 x3)) := by
  sl_kernel_rfl

theorem pay4_apply (l : Vec Ideal S1x72x72 .f32) (y : Vec Ideal S1x72x1408 .f32) (r : Fin 72) (n : Fin 1408) :
    k0_pay4 l y (ix3 0 r n) = ∑ m : Fin 72, l (ix3 0 r m) * y (ix3 0 m n) := by
  pointwise [k0_pay4, k0_pay3]

theorem pay5_apply (l : Vec Ideal S1x72x72 .f32) (y : Vec Ideal S1x72x1408 .f32) (r : Fin 72) (n : Fin 1408) :
    k0_pay5 l y (ix2 r n) = ∑ m : Fin 72, l (ix3 0 r m) * y (ix3 0 m n) := by
  pointwise [k0_pay5, k0_pay3]

/-- The first block holds the factor applied to the sketch's rows. -/
theorem q_block (r : Fin 72) (n : Fin 1408) :
    out0_A_5 c i arg1 harg1 arg2 harg2 arg3 harg3 arg4 harg4 arg5 harg5 arg6 harg6 arg7 harg7 x0 x1 x2 x3 x4 (ix3 0 r n)
      = ∑ m : Fin 72, x4 (ix3 0 r m) * x3 (ix3 0 m n) := by
  have hz : (![0, 0, 0] : Fin 3 → Nat) = fun _ => 0 := by
    funext d; match d with | ⟨0, _⟩ => rfl | ⟨1, _⟩ => rfl | ⟨2, _⟩ => rfl
  unfold out0_A_5
  rw [View.read_writes_eq_canon _ _ _ (cover0_A_5 c i arg1 harg1 arg2 harg2 arg3 harg3 arg4 harg4 arg5 harg5 arg6 harg6 arg7 harg7 x0 x1 x2 x3 x4), run_q,
    View.canon_unit_zero (S := S1x72x1408) hz, factor_eq, sketch_eq, pay4_apply]

/-- The second block holds the product of those rows with the transposed codes. -/
theorem b_block (r : Fin 72) (k : Fin 2048) :
    out0_A_6 c i arg1 harg1 arg2 harg2 arg3 harg3 arg4 harg4 arg5 harg5 arg6 harg6 arg7 harg7 x0 x1 x2 x3 x4 (ix3 0 r k)
      = bwd x0 x1 x2 (k0_pay5 x4 x3) r k := by
  unfold out0_A_6
  rw [View.read_writes_eq_canon _ _ _ (cover0_A_6 c i arg1 harg1 arg2 harg2 arg3 harg3 arg4 harg4 arg5 harg5 arg6 harg6 arg7 harg7 x0 x1 x2 x3 x4)]
  refine View.canon_eq_of_allAt _ _ _ (cover0_A_6 c i arg1 harg1 arg2 harg2 arg3 harg3 arg4 harg4 arg5 harg5 arg6 harg6 arg7 harg7 x0 x1 x2 x3 x4 _) ?_
  rw [run_b, factor_eq, sketch_eq]
  exact bwdPieces_at arg1 harg1 arg2 harg2 arg3 harg3 x0 x1 x2 _ r k

end Cert.ProjectIdeal.Block

end
-- ==== Proof.ProjectArray.lean ====
module
public import proofs.«01_k».proof.Proof.ProjectBlock
public import proofs.«01_k».proof.Proof.SpecT
public import Idealize.ShloMosaic.Lib.Claim

/-!
What the two result arrays of the last kernel hold after the run, in terms of the arguments.
-/

@[expose] public section

set_option maxRecDepth 65536

noncomputable section

namespace Cert.ProjectIdeal.Arr

open Cert.ProjectIdeal Cert.ProjectIdeal.Gen Idealize.ShloMosaic Idealize.ShloMosaic.TcCoe Idealize.SL.Sem RSvd
open Idealize.ShloMosaic.Pipeline (Dat)
open scoped BigOperators

variable (m : (ℓ : Loc nD τ sig) → Buf (Elt Ideal) ℓ) (ρ : Dev nD → PrngReg) (c : Dev nD)

abbrev cf : Vec Ideal S60x2048x1408 .fp8e4m3 := m ((c : Thread nD τ).loc main_arg0)
abbrev sf : Vec Ideal S60x16x11 .f32 := m ((c : Thread nD τ).loc main_arg1)
abbrev cb : Vec Ideal S60x2048x1408 .fp8e4m3 := m ((c : Thread nD τ).loc main_arg2)
abbrev sb : Vec Ideal S60x16x11 .f32 := m ((c : Thread nD τ).loc main_arg3)
abbrev yy : Vec Ideal S60x72x1408 .f32 := m ((c : Thread nD τ).loc main_arg4)
abbrev ll : Vec Ideal S60x72x72 .f32 := m ((c : Thread nD τ).loc main_arg5)
/-- The rows of the sketch combined by the factor. -/
def qs : Fin 60 → Fin 72 → Fin 1408 → EReal := combine (fun b r t => ll m c (ix3 b r t)) (fun b t n => yy m c (ix3 b t n))

/-- The grid point of matrix `b`. -/
abbrev pt (b : Fin 60) : Fin cfg0.N := ⟨b.val, by have h : cfg0.N = 60 := N_0; omega⟩

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![t.val, 0, 0] := (by decide +kernel : ∀ t : Fin grid0.N, win0_5.index t = ![t.val, 0, 0])
theorem idx6 : ∀ t : Fin cfg0.N, win0_6.index t = ![t.val, 0, 0] := (by decide +kernel : ∀ t : Fin grid0.N, win0_6.index t = ![t.val, 0, 0])

/-! ## What the kernel reads at a grid point -/

/-- The block of scales at a grid point is a member of the stack the host built. -/
theorem s_apply (b : Fin 60) (a : Fin 2) (k : Fin 176) : iblk m c 0 (pt b) (ix3 0 a k) = V m c main_v6 (ix3 b a k) :=
  congrArg (V m c main_v6) (at_member _ b (idx0 (pt b)) a k rfl rfl rfl)

/-- The block of first codes at a grid point is its matrix. -/
theorem wf_apply (b : Fin 60) (k : Fin 2048) (n : Fin 1408) : iblk m c 1 (pt b) (ix3 0 k n) = cf m c (ix3 b k n) := by
  rw [cf, ← V_main_arg0 m c]
  exact congrArg (V m c main_arg0) (at_member _ b (idx1 (pt b)) k n rfl rfl rfl)

/-- The block of second codes likewise. -/
theorem wb_apply (b : Fin 60) (k : Fin 2048) (n : Fin 1408) : iblk m c 2 (pt b) (ix3 0 k n) = cb m c (ix3 b k n) := by
  rw [cb, ← V_main_arg2 m c]
  exact congrArg (V m c main_arg2) (at_member _ b (idx2 (pt b)) k n rfl rfl rfl)

/-- The block of the sketch likewise. -/
theorem y_apply (b : Fin 60) (r : Fin 72) (n : Fin 1408) : iblk m c 3 (pt b) (ix3 0 r n) = yy m c (ix3 b r n) := by
  rw [yy, ← V_main_arg4 m c]
  exact congrArg (V m c main_arg4) (at_member _ b (idx3 (pt b)) r n rfl rfl rfl)

/-- The block of the factor likewise. -/
theorem l_apply (b : Fin 60) (r : Fin 72) (t : Fin 72) : iblk m c 4 (pt b) (ix3 0 r t) = ll m c (ix3 b r t) := by
  rw [ll, ← V_main_arg5 m c]
  exact congrArg (V m c main_arg5) (at_member _ b (idx4 (pt b)) r t rfl rfl rfl)

/-- The host's stack of scales: row 0 has the first codes' scales, … -/
theorem stack_f (b : Fin 60) (j : Fin 16) (n : Fin 11) : V m c main_v6 (ix3 b 0 ⟨11 * j.val + n.val, by omega⟩) = sf m c (ix3 b j n) := by
  show StableHlo.after hostOps0 (fun b => m (c, b)) (Proc.devRef .tc main_v6) _ = _
  entry_read
  pointwise
  exact congrArg₂ (fun p q => sf m c (ix3 b p q)) (flat_row j n _) (flat_col j n _)

/-- … row 1 the second codes'. -/
theorem stack_b (b : Fin 60) (j : Fin 16) (n : Fin 11) : V m c main_v6 (ix3 b 1 ⟨11 * j.val + n.val, by omega⟩) = sb m c (ix3 b j n) := by
  show StableHlo.after hostOps0 (fun b => m (c, b)) (Proc.devRef .tc main_v6) _ = _
  entry_read
  pointwise
  exact congrArg₂ (fun p q => sb m c (ix3 b p q)) (flat_row j n _) (flat_col j n _)

/-- The combined rows at a grid point are the combined rows of its matrix. -/
theorem q_eq (b : Fin 60) (r : Fin 72) (n : Fin 1408) :
    rowsOf (iblk m c 4 (pt b)) (iblk m c 3 (pt b)) r n = qs m c b r n :=
  rowsOf_eq _ _ _ _ b (l_apply m c b) (y_apply m c b) r n

/-- The product with the transposed codes at a grid point is the product of its matrix. -/
theorem bwd_block (b : Fin 60) (r : Fin 72) (k : Fin 2048) :
    bwd (iblk m c 0 (pt b)) (iblk m c 1 (pt b)) (iblk m c 2 (pt b)) (k0_pay5 (iblk m c 4 (pt b)) (iblk m c 3 (pt b))) r k
      = timesT (cf m c) (cb m c) (sf m c) (sb m c) (qs m c) b r k :=
  bwd_eq _ _ _ _ _ _ _ _ _ b (fun j n => (s_apply m c b _ _).trans (stack_f m c b j n)) (fun j n => (s_apply m c b _ _).trans (stack_b m c b j n))
    (wf_apply m c b) (wb_apply m c b) (fun r n => (Block.pay5_apply ..).trans (q_eq m c b r n)) r k

/-! ## The result arrays: a block of one is what its grid point wrote -/

theorem idx_inj5 : ∀ t t' : Fin cfg0.N, win0_5.index t = win0_5.index t' → t = t' :=
  (by decide +kernel : ∀ t t' : Fin grid0.N, win0_5.index t = win0_5.index t' → t = t')

theorem block5 (t : Fin cfg0.N) :
    ((cfg0.win 5).blk t).view.read (Elt Ideal) ((dats m 0 c).arrAt 5 cfg0.N) = (cfg0.win 5).cut (grid0.coords t) (outsAt0 m c t).1 :=
  ((dats m 0 c).read_blk_arrAt_eq_flushed 5 (fun t t' _ _ hne => (cfg0.win 5).disjoint_blk fun h => hne (idx_inj5 t t' h)) cfg0.N t t.isLt (flush0_5 _)).trans
    (congrArg ((cfg0.win 5).cut (grid0.coords t)) (after0_5 m c t))

theorem idx_inj6 : ∀ t t' : Fin cfg0.N, win0_6.index t = win0_6.index t' → t = t' :=
  (by decide +kernel : ∀ t t' : Fin grid0.N, win0_6.index t = win0_6.index t' → t = t')

theorem block6 (t : Fin cfg0.N) :
    ((cfg0.win 6).blk t).view.read (Elt Ideal) ((dats m 0 c).arrAt 6 cfg0.N) = (cfg0.win 6).cut (grid0.coords t) (outsAt0 m c t).2 :=
  ((dats m 0 c).read_blk_arrAt_eq_flushed 6 (fun t t' _ _ hne => (cfg0.win 6).disjoint_blk fun h => hne (idx_inj6 t t' h)) cfg0.N t t.isLt (flush0_6 _)).trans
    (congrArg ((cfg0.win 6).cut (grid0.coords t)) (after0_6 m c t))

theorem q_array (b : Fin 60) (r : Fin 72) (n : Fin 1408) :
    (dats m 0 c).arrAt 5 cfg0.N (ix3 b r n) = qs m c b r n := by
  have h := congrFun (block5 m c (pt b)) (ix3 0 r n)
  simp only [outsAt0] at h
  refine Eq.trans (congrArg ((dats m 0 c).arrAt 5 cfg0.N) (at_member _ b (idx5 (pt b)) r n rfl rfl rfl).symm) (h.trans ?_)
  exact (Block.q_block ..).trans (q_eq m c b r n)

theorem b_array (b : Fin 60) (r : Fin 72) (k : Fin 2048) :
    (dats m 0 c).arrAt 6 cfg0.N (ix3 b r k) = timesT (cf m c) (cb m c) (sf m c) (sb m c) (qs m c) b r k := by
  have h := congrFun (block6 m c (pt b)) (ix3 0 r k)
  simp only [outsAt0] at h
  refine Eq.trans (congrArg ((dats m 0 c).arrAt 6 cfg0.N) (at_member _ b (idx6 (pt b)) r k rfl rfl rfl).symm) (h.trans ?_)
  exact (Block.b_block ..).trans (bwd_block m c b r k)

theorem arrays_inj : Function.Injective (Pipeline.arrRef spec0) := by decide

/-- The host transposes the first result. -/
theorem q_host (b : Fin 60) (n : Fin 1408) (r : Fin 72) :
    Pipeline.afterTail₀ cfgs (dats m) 0 (V0 m) [hostOps1] c main_v8 (ix3 b n r) = qs m c b r n := by
  refine Eq.trans ?_ (q_array m c b r n)
  show StableHlo.after hostOps1 (Pipeline.withArrays spec0 c (V0 m c) fun w => (dats m 0 c).arrAt w cfg0.N) (Proc.devRef .tc main_v8) (ix3 b n r) = _
  entry_read
  pointwise
  exact congrFun (Pipeline.withArrays_arr spec0 arrays_inj c (V0 m c) (fun w => (dats m 0 c).arrAt w cfg0.N) 5) _

/-- The run with the results named. -/
theorem run_arrays : θ_run defs (onTc (τ := τ) (main (F := Ideal))) ⟨m, fun _ => 0, ρ⟩ fun r => ∀ c : Dev nD,
      r.2.mem ((c : Thread nD τ).loc main_v8) = Pipeline.afterTail₀ cfgs (dats m) 0 (V0 m) [hostOps1] c main_v8
      ∧ r.2.mem ((c : Thread nD τ).loc main_v7_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have both := θ_run_and (run_main m ρ) (unchanged m ρ)
  exact (θ_run defs _ _).mono (fun r h c => ⟨(h.1 c).2 main_v8 (Pipeline.mem_restRefs_of main_v8 (by decide) (by decide)),
    (h.1 c).1 6, h.2 c⟩) both

end Cert.ProjectIdeal.Arr

end
-- ==== Proof.ProjectRef.lean ====
module
public import proofs.«01_k».proof.Proof.Spec
public import proofs.«01_k».proof.Proof.Gen.ProjectReferenceIdeal.Value
public import Idealize.ShloMosaic.Lib.Claim

/-!
What the last reference computes, in terms of its arguments.
-/

@[expose] public section

set_option maxRecDepth 65536

noncomputable section

namespace Cert.ProjectReferenceIdeal.Arr

open Cert.ProjectReferenceIdeal Cert.ProjectReferenceIdeal.Gen Idealize.ShloMosaic Idealize.ShloMosaic.TcCoe Idealize.SL.Sem RSvd
open Idealize.ShloMosaic.Pipeline (Dat)
open scoped BigOperators

variable (m : (ℓ : Loc nD τ sig) → Buf (Elt Ideal) ℓ) (ρ : Dev nD → PrngReg) (c : Dev nD)

abbrev cf : Vec Ideal S60x2048x1408 .fp8e4m3 := m ((c : Thread nD τ).loc main_arg0)
abbrev sf : Vec Ideal S60x16x11 .f32 := m ((c : Thread nD τ).loc main_arg1)
abbrev cb : Vec Ideal S60x2048x1408 .fp8e4m3 := m ((c : Thread nD τ).loc main_arg2)
abbrev sb : Vec Ideal S60x16x11 .f32 := m ((c : Thread nD τ).loc main_arg3)
abbrev yy : Vec Ideal S60x72x1408 .f32 := m ((c : Thread nD τ).loc main_arg4)
abbrev ll : Vec Ideal S60x72x72 .f32 := m ((c : Thread nD τ).loc main_arg5)
/-- The rows of the sketch combined by the factor. -/
def qs : Fin 60 → Fin 72 → Fin 1408 → EReal := combine (fun b r t => ll m c (ix3 b r t)) (fun b t n => yy m c (ix3 b t n))

/-- The one grid point. -/
abbrev pt : Fin cfg0.N := ⟨0, by have h : cfg0.N = 1 := N_0; omega⟩

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0] := (by decide +kernel : ∀ t : Fin grid0.N, win0_7.index t = ![0, 0, 0])

/-! ## What the body reads -/

theorem in0 : iblk m c 0 pt = cf m c := by
  rw [cf, ← V_main_arg0 m c]
  exact stk_ext (B := 60) (m := 2048) (n := 1408) _ _ fun b r k => congrArg (V m c main_arg0) (at_whole _ (idx0 pt) b r k rfl rfl rfl)

/-- The host repeats every scale over its block. -/
theorem in1 (b : Fin 60) (k : Fin 2048) (n : Fin 1408) : iblk m c 1 pt (ix3 b k n) = scaleAt (sf m c) b k n := by
  refine Eq.trans (congrArg (V m c main_v3) (at_whole _ (idx1 pt) b k n rfl rfl rfl)) ?_
  entry_read
  pointwise [scaleAt]

theorem in2 : iblk m c 2 pt = cb m c := by
  rw [cb, ← V_main_arg2 m c]
  exact stk_ext (B := 60) (m := 2048) (n := 1408) _ _ fun b r k => congrArg (V m c main_arg2) (at_whole _ (idx2 pt) b r k rfl rfl rfl)

theorem in3 (b : Fin 60) (k : Fin 2048) (n : Fin 1408) : iblk m c 3 pt (ix3 b k n) = scaleAt (sb m c) b k n := by
  refine Eq.trans (congrArg (V m c main_v7) (at_whole _ (idx3 pt) b k n rfl rfl rfl)) ?_
  entry_read
  pointwise [scaleAt]

theorem in4 : iblk m c 4 pt = yy m c := by
  rw [yy, ← V_main_arg4 m c]
  exact stk_ext (B := 60) (m := 72) (n := 1408) _ _ fun b r k => congrArg (V m c main_arg4) (at_whole _ (idx4 pt) b r k rfl rfl rfl)

theorem in5 : iblk m c 5 pt = ll m c := by
  rw [ll, ← V_main_arg5 m c]
  exact stk_ext (B := 60) (m := 72) (n := 72) _ _ fun b r k => congrArg (V m c main_arg5) (at_whole _ (idx5 pt) b r k rfl rfl rfl)

/-! ## What it computes -/

theorem pay1_apply (l y) (b : Fin 60) (r : Fin 72) (n : Fin 1408) :
    k0_pay1 (F := Ideal) l y (ix3 b r n) = ∑ t : Fin 72, l (ix3 b r t) * y (ix3 b t n) := by
  pointwise [k0_pay1]

/-- The combined rows. -/
theorem q_eq (b : Fin 60) (r : Fin 72) (n : Fin 1408) : k0_pay1 (F := Ideal) (iblk m c 5 pt) (iblk m c 4 pt) (ix3 b r n) = qs m c b r n := by
  rw [pay1_apply, in4, in5]
  rfl

/-- The stored combined rows are transposed. -/
theorem stored_apply (l y) (b : Fin 60) (r : Fin 72) (n : Fin 1408) :
    k0_pay2 (F := Ideal) l y (ix3 b n r) = k0_pay1 (F := Ideal) l y (ix3 b r n) := by
  pointwise [k0_pay2]

theorem pay3_apply (v0 v2 v5 v7 l y) (b : Fin 60) (r : Fin 72) (k : Fin 2048) : k0_pay3 (F := Ideal) v0 v2 v5 v7 l y (ix3 b r k)
    = (∑ n : Fin 1408, k0_pay1 (F := Ideal) l y (ix3 b r n) * (v0 (ix3 b k n) * v2 (ix3 b k n)))
      + ∑ n : Fin 1408, k0_pay1 (F := Ideal) l y (ix3 b r n) * (0 - v5 (ix3 b k n) * v7 (ix3 b k n)) := by
  pointwise [k0_pay3]

/-- The body's product is the product of every matrix. -/
theorem product (b : Fin 60) (r : Fin 72) (k : Fin 2048) :
    k0_pay3 (F := Ideal) (iblk m c 0 pt) (iblk m c 1 pt) (iblk m c 2 pt) (iblk m c 3 pt) (iblk m c 5 pt) (iblk m c 4 pt) (ix3 b r k)
      = timesT (cf m c) (cb m c) (sf m c) (sb m c) (qs m c) b r k := by
  rw [pay3_apply]
  unfold timesT
  congr 1 <;> refine Finset.sum_congr rfl fun n _ => ?_
  · rw [q_eq, in0, in1, term_eq]
  · rw [q_eq, in2, in3, term_neg_eq]

theorem q_array (b : Fin 60) (r : Fin 72) (n : Fin 1408) :
    (dats m 0 c).arrAt 6 cfg0.N (ix3 b n r) = qs m c b r n := by
  have h := congrFun (Value.blocks6 m c pt (flush0_6 _)) (ix3 b n r)
  rw [Value.flushed6] at h
  refine Eq.trans (congrArg ((dats m 0 c).arrAt 6 cfg0.N) (at_whole _ (idx6 pt) b n r rfl rfl rfl).symm) (h.trans ?_)
  refine Eq.trans ?_ ((stored_apply ..).trans (q_eq m c b r n))
  show out0_6 _ _ _ _ _ _ (ix3 b n r) = _
  unfold out0_6
  rw [View.canon_unit_zero (S := S60x1408x72) hz3,
    View.ld_unit_zero (S := S60x72x72) hz3, View.ld_unit_zero (S := S60x72x1408) hz3]

theorem b_array (b : Fin 60) (r : Fin 72) (k : Fin 2048) :
    (dats m 0 c).arrAt 7 cfg0.N (ix3 b r k) = timesT (cf m c) (cb m c) (sf m c) (sb m c) (qs m c) b r k := by
  have h := congrFun (Value.blocks7 m c pt (flush0_7 _)) (ix3 b r k)
  rw [Value.flushed7] at h
  refine Eq.trans (congrArg ((dats m 0 c).arrAt 7 cfg0.N) (at_whole _ (idx7 pt) b r k rfl rfl rfl).symm) (h.trans ?_)
  refine Eq.trans ?_ (product m c b r k)
  show out0_7 _ _ _ _ _ _ (ix3 b r k) = _
  unfold out0_7
  rw [View.canon_unit_zero (S := S60x72x2048) hz3,
    View.ld_unit_zero (S := S60x2048x1408) hz3, View.ld_unit_zero (S := S60x2048x1408) hz3, View.ld_unit_zero (S := S60x2048x1408) hz3, View.ld_unit_zero (S := S60x2048x1408) hz3,
    View.ld_unit_zero (S := S60x72x72) hz3, View.ld_unit_zero (S := S60x72x1408) hz3]

end Cert.ProjectReferenceIdeal.Arr

end
-- ==== Proof.ProjectClaim.lean ====
module
public import proofs.«01_k».proof.Defs
public import proofs.«01_k».proof.Proof.ProjectArray
public import proofs.«01_k».proof.Proof.ProjectRef

/-!
The last kernel computes what its reference computes: both results, for all arguments.
-/

@[expose] public section

noncomputable section

namespace Cert.Proof

open Idealize.ShloMosaic Idealize.ShloMosaic.TcCoe Idealize.SL.Sem RSvd

theorem algebraic_project : Cert.algebraic_ProjectIdeal_ProjectReferenceIdeal := by
  intro m g m' g' _ hargs
  refine ⟨fun c => Pipeline.afterTail₀ Cert.ProjectIdeal.cfgs (Cert.ProjectIdeal.Gen.dats m) 0 (Cert.ProjectIdeal.Gen.V0 m) [Cert.ProjectIdeal.Gen.hostOps1] c Cert.ProjectIdeal.main_v8, fun c => (Cert.ProjectIdeal.Gen.dats m 0 c).arrAt 6 Cert.ProjectIdeal.cfg0.N,
    Cert.ProjectIdeal.Arr.run_arrays m g, (θ_run _ _ _).mono (fun r h c => ?_) (Cert.ProjectReferenceIdeal.Value.run_blocks m' g')⟩
  obtain ⟨h0, h1, h⟩ := h c
  obtain ⟨a0, a1, a2, a3, a4, a5⟩ := hargs c
  have eq : Cert.ProjectReferenceIdeal.Arr.qs m' c = Cert.ProjectIdeal.Arr.qs m c := by
    unfold Cert.ProjectReferenceIdeal.Arr.qs Cert.ProjectIdeal.Arr.qs
    exact congr (congrArg combine (funext fun b => funext fun r => funext fun t => congrFun a5 (ix3 b r t)))
      (funext fun b => funext fun t => funext fun n => congrFun a4 (ix3 b t n))
  have eb : timesT (Cert.ProjectReferenceIdeal.Arr.cf m' c) (Cert.ProjectReferenceIdeal.Arr.cb m' c) (Cert.ProjectReferenceIdeal.Arr.sf m' c) (Cert.ProjectReferenceIdeal.Arr.sb m' c) (Cert.ProjectReferenceIdeal.Arr.qs m' c)
      = timesT (Cert.ProjectIdeal.Arr.cf m c) (Cert.ProjectIdeal.Arr.cb m c) (Cert.ProjectIdeal.Arr.sf m c) (Cert.ProjectIdeal.Arr.sb m c) (Cert.ProjectIdeal.Arr.qs m c) := by
    rw [eq]
    exact congr (congr (congr (congrArg timesT a0) a2) a1) a3 |> (congrFun · _)
  refine ⟨h0.trans ?_, h1.trans ?_, h⟩
  · refine stk_ext (B := 60) (m := 1408) (n := 72) _ _ fun b n r => ?_
    exact (Cert.ProjectReferenceIdeal.Arr.q_array m' c b r n).trans ((congrFun (congrFun (congrFun eq b) r) n).trans (Cert.ProjectIdeal.Arr.q_host m c b n r).symm)
  · refine stk_ext (B := 60) (m := 72) (n := 2048) _ _ fun b r n => ?_
    exact (Cert.ProjectReferenceIdeal.Arr.b_array m' c b r n).trans ((congrFun (congrFun (congrFun eb b) r) n).trans (Cert.ProjectIdeal.Arr.b_array m c b r n).symm)

end Cert.Proof

end
-- ==== Proof.InvertSpec.lean ====
module
public import proofs.«01_k».proof.Proof.Spec
public import Idealize.ShloMosaic.Lib.WritesUnit
public import Idealize.ShloMosaic.Lib.Pipeline.ValueKit.Geometry

/-!
The inverse of the Cholesky factor of one matrix, step by step, over any arithmetic.

A matrix is a function of a row and a column. Step `k` of the factorisation divides row `k` of what is left of the matrix by
the root of its diagonal entry — that is row `k` of the upper factor — and subtracts the outer product of this row with itself.
The lower factor is the transpose of the upper one; its inverse is found by forward substitution from the identity matrix.
-/

@[expose] public section

noncomputable section

namespace RSvd

open Idealize.ShloMosaic

variable {F : FTy → Type} [FloatOps F]

/-- Row `k` of a matrix, divided by the root of its diagonal entry. -/
def scaledRow (a : ℕ → ℕ → F .f32) (k j : ℕ) : F .f32 := FloatOps.mulf (a k j) (FloatOps.rsqrt (a k k))

/-- What is left of `g` after its first `k` steps. -/
def left (g : ℕ → ℕ → F .f32) : ℕ → ℕ → ℕ → F .f32
  | 0 => g
  | k + 1 => fun i j => FloatOps.subf (left g k i j) (FloatOps.mulf (scaledRow (left g k) k j) (scaledRow (left g k) k i))

/-- The upper factor. -/
def upper (g : ℕ → ℕ → F .f32) (k j : ℕ) : F .f32 := scaledRow (left g k) k j

/-- The identity matrix. -/
def unit (i j : ℕ) : F .f32 := if i = j then Scalar.ofBits .f32 0x3F800000#32 else Scalar.ofBits .f32 0x00000000#32

/-- What is left of the identity matrix after `m` rows of the inverse of the transpose of `u` have been found. -/
def residue (u : ℕ → ℕ → F .f32) : ℕ → ℕ → ℕ → F .f32
  | 0 => unit
  | m + 1 => fun i j => FloatOps.subf (residue u m i j) (FloatOps.mulf (u m i) (FloatOps.divf (residue u m m j) (u m m)))

/-- The inverse of the transpose of `u`. -/
def lowerInv (u : ℕ → ℕ → F .f32) (i j : ℕ) : F .f32 := FloatOps.divf (residue u i i j) (u i i)

/-- Matrix `l` of an array whose last coordinate numbers the matrices. -/
def lane (x : Vec F (Stk 72 72 128) .f32) (l : Fin 128) (i j : ℕ) : F .f32 := x (ix3 (Fin.ofNat 72 i) (Fin.ofNat 72 j) l)

theorem ofNat_val (i : Fin 72) : Fin.ofNat 72 i.val = i := Fin.ext (Nat.mod_eq_of_lt i.isLt)

theorem lane_apply (x : Vec F (Stk 72 72 128) .f32) (i j : Fin 72) (l : Fin 128) : lane x l i.val j.val = x (ix3 i j l) := by
  unfold lane; rw [ofNat_val, ofNat_val]

/-- The inverse factors of 128 matrices, one per last coordinate. -/
def inverses (x : Vec F (Stk 72 72 128) .f32) : Vec F (Stk 72 72 128) .f32 :=
  fun y => lowerInv (upper (lane x (y 2))) (y 0).val (y 1).val

/-! ## Loads and stores of a row, and loads of one entry, of all 128 matrices -/

section Reads
variable {sig : RefSig} {κ : Kind} {sp : Space} {e : EltTy} {Val : EltTy → Type} (v : View sig κ sp (Stk 72 72 128) e) (f : v.ty.Contents Val)

theorem read_row {off : Fin 3 → ℕ} (inb : ∀ a, off a + (Stk 1 72 128).size a ≤ (Stk 72 72 128).size a) (i : Fin 72) (h : off = ![i.val, 0, 0])
    (z : Fin 1) (j : Fin 72) (l : Fin 128) :
    v.readAt Val (Rect.unit (s := Stk 72 72 128) off (Stk 1 72 128).size inb).toLoadRect f (ix3 z j l) = v.read Val f (ix3 i j l) := by
  subst h
  refine congrArg (v.read Val f) (eq_ix3 _ i j l ?_ ?_ ?_)
  · refine (ValueKit.rect_emb_unit_val _ _ _ _ _).trans ?_
    show i.val + z.val = i.val; omega
  · refine (ValueKit.rect_emb_unit_val _ _ _ _ _).trans ?_
    exact Nat.zero_add _
  · refine (ValueKit.rect_emb_unit_val _ _ _ _ _).trans ?_
    exact Nat.zero_add _

theorem read_entry {off : Fin 3 → ℕ} (inb : ∀ a, off a + (Stk 1 1 128).size a ≤ (Stk 72 72 128).size a) (i j : Fin 72) (h : off = ![i.val, j.val, 0])
    (z z' : Fin 1) (l : Fin 128) :
    v.readAt Val (Rect.unit (s := Stk 72 72 128) off (Stk 1 1 128).size inb).toLoadRect f (ix3 z z' l) = v.read Val f (ix3 i j l) := by
  subst h
  refine congrArg (v.read Val f) (eq_ix3 _ i j l ?_ ?_ ?_)
  · refine (ValueKit.rect_emb_unit_val _ _ _ _ _).trans ?_
    show i.val + z.val = i.val; omega
  · refine (ValueKit.rect_emb_unit_val _ _ _ _ _).trans ?_
    show j.val + z'.val = j.val; omega
  · refine (ValueKit.rect_emb_unit_val _ _ _ _ _).trans ?_
    exact Nat.zero_add _

/-- A stored row is read back, … -/
theorem write_row {off : Fin 3 → ℕ} (inb : ∀ a, off a + (Stk 1 72 128).size a ≤ (Stk 72 72 128).size a) (w : (Stk 1 72 128).Idx → Val e)
    (L : List (View.Piece Val (Stk 72 72 128) e)) (i : Fin 72) (h : off = ![i.val, 0, 0]) (j : Fin 72) (l : Fin 128) :
    v.read Val (v.writes Val f ((⟨Rect.unit (s := Stk 72 72 128) off (Stk 1 72 128).size inb, w⟩ : View.Piece Val (Stk 72 72 128) e) :: L)) (ix3 i j l) = w (ix3 0 j l) := by
  subst h
  refine View.read_writes_cons_unit_of_mem v f inb w L _ (ix3 (0 : Fin 1) j l) rfl fun a => ?_
  match a with
  | ⟨0, _⟩ => rfl
  | ⟨1, _⟩ => exact (Nat.zero_add _).symm
  | ⟨2, _⟩ => exact (Nat.zero_add _).symm

/-- … and leaves the other rows. -/
theorem write_row_ne {off : Fin 3 → ℕ} (inb : ∀ a, off a + (Stk 1 72 128).size a ≤ (Stk 72 72 128).size a) (w : (Stk 1 72 128).Idx → Val e)
    (L : List (View.Piece Val (Stk 72 72 128) e)) (n : ℕ) (h : off = ![n, 0, 0]) (i : Fin 72) (hi : i.val ≠ n) (j : Fin 72) (l : Fin 128) :
    v.read Val (v.writes Val f ((⟨Rect.unit (s := Stk 72 72 128) off (Stk 1 72 128).size inb, w⟩ : View.Piece Val (Stk 72 72 128) e) :: L)) (ix3 i j l)
      = v.read Val (v.writes Val f L) (ix3 i j l) := by
  subst h
  refine View.read_writes_cons_unit_of_not_mem v f inb w L _ rfl (0 : Fin 3) ?_
  show i.val < n ∨ n + 1 ≤ i.val
  omega

end Reads

end RSvd

end
-- ==== Proof.InvertPay.lean ====
module
public import proofs.«01_k».proof.Proof.InvertSpec
public import proofs.«01_k».proof.Proof.Gen.InvertIdeal.Skeleton

/-!
The inverse kernel's vector operations, entry by entry, and where its loops load and store.
-/

@[expose] public section

noncomputable section

namespace Cert.InvertIdeal.Run

open Cert.InvertIdeal Cert.InvertIdeal.Gen Idealize.ShloMosaic RSvd

variable {F : FTy → Type} [FloatOps F]

/-! ## Trips and offsets -/

theorem trips1 : k0_t1_loop.trips = 72 := by decide +kernel
theorem trips4 : k0_t4_loop.trips = 72 := by decide +kernel
theorem trips2 : ∀ k : Fin k0_t1_loop.trips, (k0_t2_loop k).trips = 71 - k.val := by decide +kernel
theorem trips5 : ∀ k : Fin k0_t4_loop.trips, (k0_t5_loop k).trips = k.val := by decide +kernel
theorem off1 : ∀ k : Fin k0_t1_loop.trips, k0_off1 k = ![k.val, k.val, 0] := by decide +kernel
theorem off2 : ∀ k : Fin k0_t1_loop.trips, k0_off2 k = ![k.val, 0, 0] := by decide +kernel
theorem off3 : ∀ (k : Fin k0_t1_loop.trips) (t : Fin (k0_t2_loop k).trips), k0_off3 k t = ![k.val + 1 + t.val, 0, 0] := by decide +kernel
theorem off4 : ∀ (k : Fin k0_t1_loop.trips) (t : Fin (k0_t2_loop k).trips), k0_off4 k t = ![k.val, k.val + 1 + t.val, 0] := by decide +kernel
theorem off7 : ∀ (k : Fin k0_t4_loop.trips) (t : Fin (k0_t5_loop k).trips), k0_off7 k t = ![t.val, k.val, 0] := by decide +kernel
theorem off8 : ∀ (k : Fin k0_t4_loop.trips) (t : Fin (k0_t5_loop k).trips), k0_off8 k t = ![t.val, 0, 0] := by decide +kernel
theorem off11 : ∀ k : Fin k0_t4_loop.trips, k0_off11 k = ![k.val, k.val, 0] := by decide +kernel
theorem off12 : ∀ k : Fin k0_t4_loop.trips, k0_off12 k = ![k.val, 0, 0] := by decide +kernel

/-! ## Entries of the vectors -/

theorem pay1_apply (x : Vec F S72x72x128 .f32) : k0_pay1 x = x := by
  funext y
  rw [eq_ix3 y (y 0) (y 1) (y 2) rfl rfl rfl]
  pointwise [k0_pay1]

theorem pay2_apply (v10 : Vec F S1x1x128 .f32) (v13 : Vec F S1x72x128 .f32) (j : Fin 72) (l : Fin 128) :
    k0_pay2 v10 v13 (ix2 j l) = FloatOps.mulf (v13 (ix3 0 j l)) (FloatOps.rsqrt (v10 (ix3 0 0 l))) := by
  pointwise [k0_pay2]

theorem pay3_apply (v10 : Vec F S1x1x128 .f32) (v13 : Vec F S1x72x128 .f32) (j : Fin 72) (l : Fin 128) :
    k0_pay3 v10 v13 (ix3 0 j l) = FloatOps.mulf (v13 (ix3 0 j l)) (FloatOps.rsqrt (v10 (ix3 0 0 l))) := by
  pointwise [k0_pay3, k0_pay2]

theorem pay4_apply (v10 : Vec F S1x1x128 .f32) (v13 v31 : Vec F S1x72x128 .f32) (v35 : Vec F S1x1x128 .f32) (j : Fin 72) (l : Fin 128) :
    k0_pay4 v10 v13 v31 v35 (ix3 0 j l)
      = FloatOps.subf (v31 (ix3 0 j l)) (FloatOps.mulf (FloatOps.mulf (v13 (ix3 0 j l)) (FloatOps.rsqrt (v10 (ix3 0 0 l)))) (v35 (ix3 0 0 l))) := by
  pointwise [k0_pay4, k0_pay2]

theorem pay6_word : ∀ (k : Fin k0_t4_loop.trips) (j : Fin 72), (BitVec.ofNat 32 j.val = Scf.iv 0#32 1#32 k.val) ↔ k.val = j.val := by decide +kernel

theorem pay6_apply (k : Fin k0_t4_loop.trips) (j : Fin 72) (l : Fin 128) : k0_pay6 (F := F) k (ix2 j l) = unit k.val j.val := by
  pointwise [k0_pay6, unit]
  by_cases h : k.val = j.val
  · simp [Scalar.select, IntOp.cmpi, (pay6_word k j).2 h, h]
  · have hw := beq_eq_false_iff_ne.2 (mt (pay6_word k j).1 h)
    simp only [Scalar.select, IntOp.cmpi, hw, h, if_false]
    rfl

theorem pay7_apply (a : FVec F S72x128 .f32) (v32 : Vec F S1x1x128 .f32) (v35 : Vec F S1x72x128 .f32) (j : Fin 72) (l : Fin 128) :
    k0_pay7 a v32 v35 (ix2 j l) = FloatOps.subf (a (ix2 j l)) (FloatOps.mulf (v32 (ix3 0 0 l)) (v35 (ix3 0 j l))) := by
  pointwise [k0_pay7]

theorem pay9_apply (v19 : FVec F S72x128 .f32) (v22 : Vec F S1x1x128 .f32) (j : Fin 72) (l : Fin 128) :
    k0_pay9 v19 v22 (ix3 0 j l) = FloatOps.divf (v19 (ix2 j l)) (v22 (ix3 0 0 l)) := by
  pointwise [k0_pay9]

end Cert.InvertIdeal.Run

end
-- ==== Proof.InvertRun.lean ====
module
public import proofs.«01_k».proof.Proof.InvertPay
public import proofs.«01_k».proof.Proof.Gen.InvertIdeal.Frame
public import proofs.«01_k».proof.Proof.Gen.InvertIdeal.Loops
public import Idealize.ShloMosaic.Lib.LoopRemainder

/-!
The loops of the inverse kernel, by invariants: before step `k` of the factorisation the rows of the work array from `k` on are what is
left of the matrices, and the rows of the factor before `k` are known; before step `i` of the substitution the rows of the inverse before `i` are known.
-/

@[expose] public section

noncomputable section

namespace Cert.InvertIdeal.Run

open Cert.InvertIdeal Cert.InvertIdeal.Gen RSvd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (𝒱 : Variants) (c : Dev nD) (bd : Option 𝒱.V) (arg0 : Memref sig .tc .vmem S72x72x128 .f32) (harg0 : arg0.IsWhole) (arg1 : Memref sig .tc .vmem S72x72x128 .f32) (harg1 : arg1.IsWhole) (arg2 : Memref sig .tc .vmem S72x72x128 .f32) (harg2 : arg2.IsWhole) (arg3 : Memref sig .tc .vmem S72x72x128 .f32) (harg3 : arg3.IsWhole)

/-! ## The update of the rows below the pivot -/

/-- One trip stores one updated row. -/
theorem trip2 (k : Fin k0_t1_loop.trips) (v10 : Vec F S1x1x128 .f32) (v13 : Vec F S1x72x128 .f32) (X : BufTy.Contents (Elt F) arg3.view.ty) (t : Fin (k0_t2_loop k).trips) (acc : BitVec 32) (f : BufTy.Contents (Elt F) arg2.view.ty) :
    tripL_k0_t2 (F := F) 𝒱 c bd arg0 harg0 arg1 harg1 arg2 harg2 arg3 harg3 k v10 v13 X t acc f
      = [⟨Rect.unit (k0_off3 k t) S1x72x128.size (k0_off3_inb k t),
          k0_pay4 v10 v13 (View.readAt (Elt F) arg2.view (Rect.unit (s := S72x72x128) (k0_off3 k t) S1x72x128.size (k0_off3_inb k t)).toLoadRect f)
            (View.readAt (Elt F) arg3.view (Rect.unit (s := S72x72x128) (k0_off4 k t) S1x1x128.size (k0_off4_inb k t)).toLoadRect X)⟩] := by
  unfold tripL_k0_t2 trip_k0_t2
  rfl

/-- After `n` trips the next `n` rows are updated, the others as they were. -/
theorem update (k : Fin k0_t1_loop.trips) (v10 : Vec F S1x1x128 .f32) (v13 : Vec F S1x72x128 .f32) (X : BufTy.Contents (Elt F) arg3.view.ty) (f : BufTy.Contents (Elt F) arg2.view.ty)
    (w : BitVec 32) (n : ℕ) (hn : n ≤ (k0_t2_loop k).trips) (r : Fin 72) (hr : r.val = k.val) (i j : Fin 72) (l : Fin 128) :
    arg2.view.read (Elt F) (arg2.view.writes (Elt F) f (st_k0_t2 (F := F) 𝒱 c bd arg0 harg0 arg1 harg1 arg2 harg2 arg3 harg3 k v10 v13 X f w n).2) (ix3 i j l)
      = if k.val < i.val ∧ i.val < k.val + 1 + n then
          FloatOps.subf (arg2.view.read (Elt F) f (ix3 i j l))
            (FloatOps.mulf (FloatOps.mulf (v13 (ix3 0 j l)) (FloatOps.rsqrt (v10 (ix3 0 0 l)))) (arg3.view.read (Elt F) X (ix3 r i l)))
        else arg2.view.read (Elt F) f (ix3 i j l) := by
  induction n generalizing i j l with
  | zero => rw [if_neg (by omega)]; rfl
  | succ n ih =>
    have hk := trips2 k
    have hs := st_k0_t2_succ (F := F) 𝒱 c bd arg0 harg0 arg1 harg1 arg2 harg2 arg3 harg3 k v10 v13 X f w ⟨n, hn⟩
    dsimp only at hs
    rw [hs, trip2]
    dsimp only [List.cons_append, List.nil_append]
    by_cases hi : i.val = k.val + 1 + n
    · rw [if_pos (by omega), write_row _ _ _ _ _ i (by rw [off3, hi]), pay4_apply]
      rw [read_row _ _ _ i (by rw [off3, hi]), read_entry _ _ _ r i (by rw [off4, hr, hi]), ih (by omega), if_neg (by omega)]
    · rw [write_row_ne _ _ _ _ _ (k.val + 1 + n) (off3 k _) i hi, ih (by omega)]
      by_cases h : k.val < i.val ∧ i.val < k.val + 1 + n
      · rw [if_pos h, if_pos (by omega)]
      · rw [if_neg h, if_neg (by omega)]

/-! ## One step of the factorisation -/

/-- What the two arrays hold before step `k`. -/
def Factored (x : Vec F S72x72x128 .f32) (k : ℕ) (a u : Vec F S72x72x128 .f32) : Prop :=
  (∀ (i j : Fin 72) (l : Fin 128), k ≤ i.val → a (ix3 i j l) = left (lane x l) k i.val j.val)
    ∧ ∀ (i j : Fin 72) (l : Fin 128), i.val < k → u (ix3 i j l) = upper (lane x l) i.val j.val

/-- The arrays before step `k`, the matrices beside them. -/
abbrev Inv1 (f₀ : BufTy.Contents (Elt F) arg0.view.ty) (k : ℕ) : sProp (MT nD τ sig Unit (Elt F) ℕ (UR sig nD τ) ℕ) :=
  iprop(∃ fa fu, (arg0.view.loc (c : Thread nD τ) ↦[arg0.view.set]{fullShare} f₀) ∗ (arg2.view.loc (c : Thread nD τ) ↦[arg2.view.set]{fullShare} fa) ∗ (arg3.view.loc (c : Thread nD τ) ↦[arg3.view.set]{fullShare} fu)
    ∗ ⌜Factored (arg0.view.read (Elt F) f₀) k (arg2.view.read (Elt F) fa) (arg3.view.read (Elt F) fu)⌝)

theorem step1 (E : Set ℕ) (f₀ : BufTy.Contents (Elt F) arg0.view.ty) (k : Fin k0_t1_loop.trips) :
    Inv1 c arg0 arg2 arg3 f₀ k.val
      ⊢ wp frame (wpE (defs₀ (F := F)) 𝒱 (c : Thread nD τ) bd) E (k0_t1_body (F := F) arg0 harg0 arg1 harg1 arg2 harg2 arg3 harg3 k ())
          (fun _ => Inv1 c arg0 arg2 arg3 f₀ (k.val + 1)) := by
  unfold k0_t1_body
  iintro ⟨%fa, %fu, H0, HA, HU, %h⟩
  sl_exec
  sl_step
  iexists _; iexists _
  isplitl [H0]; · iexact H0
  isplitl [HA]; · iexact HA
  isplitl [HU]; · iexact HU
  ipureintro
  obtain ⟨ha, hu⟩ := h
  have hk : k.val < 72 := lt_of_lt_of_eq k.isLt trips1
  let r : Fin 72 := ⟨k.val, hk⟩
  have hrow : ∀ (inb) (j : Fin 72) (l : Fin 128), View.readAt (Elt F) arg2.view (Rect.unit (s := S72x72x128) (k0_off2 k) S1x72x128.size inb).toLoadRect fa (ix3 0 j l) = left (lane (arg0.view.read (Elt F) f₀) l) k.val k.val j.val := fun inb j l =>
    (read_row arg2.view fa inb r (off2 k) 0 j l).trans (ha r j l le_rfl)
  have hpiv : ∀ (inb) (l : Fin 128), View.readAt (Elt F) arg2.view (Rect.unit (s := S72x72x128) (k0_off1 k) S1x1x128.size inb).toLoadRect fa (ix3 0 0 l) = left (lane (arg0.view.read (Elt F) f₀) l) k.val k.val k.val := fun inb l =>
    (read_entry arg2.view fa inb r r (off1 k) 0 0 l).trans (ha r r l le_rfl)
  have hnew : ∀ (inb inb' inb'') (j : Fin 72) (l : Fin 128), arg3.view.read (Elt F) (arg3.view.writes (Elt F) fu
      [⟨Rect.unit (k0_off2 k) S1x72x128.size inb,
          k0_pay3 (View.readAt (Elt F) arg2.view (Rect.unit (s := S72x72x128) (k0_off1 k) S1x1x128.size inb').toLoadRect fa)
            (View.readAt (Elt F) arg2.view (Rect.unit (s := S72x72x128) (k0_off2 k) S1x72x128.size inb'').toLoadRect fa)⟩]) (ix3 r j l) = upper (lane (arg0.view.read (Elt F) f₀) l) k.val j.val := fun inb inb' inb'' j l => by
    rw [write_row _ _ _ _ _ r (off2 k), pay3_apply, hrow, hpiv]; rfl
  refine ⟨fun i j l hi => ?_, fun i j l hi => ?_⟩
  · refine (update (F := F) 𝒱 c bd arg0 harg0 arg1 harg1 arg2 harg2 arg3 harg3 k _ _ _ _ _ _ le_rfl r rfl i j l).trans ?_
    rw [if_pos (by rw [trips2]; omega), ha i j l (by omega), hrow, hpiv, hnew]
    rfl
  · by_cases hik : i.val = k.val
    · obtain rfl : i = r := Fin.ext hik
      exact hnew _ _ _ j l
    · rw [write_row_ne _ _ _ _ _ k.val (off2 k) i hik]
      exact hu i j l (by omega)

set_option warn.classDefReducibility false in
/-- The factorisation by its invariant. -/
@[sl_loop] def loop1 (E : Set ℕ) (f₀ : BufTy.Contents (Elt F) arg0.view.ty) : LoopInvTy_k0_t1 (F := F) Unit ℕ (UR sig nD τ) ℕ 𝒱 c bd E arg0 harg0 arg1 harg1 arg2 harg2 arg3 harg3 where
  inv k _ := Inv1 c arg0 arg2 arg3 f₀ k
  step k acc := step1 𝒱 c bd arg0 harg0 arg1 harg1 arg2 harg2 arg3 harg3 E f₀ k

/-! ## One step of the substitution -/

theorem trip5 (k : Fin k0_t4_loop.trips) (X : BufTy.Contents (Elt F) arg1.view.ty) (U : BufTy.Contents (Elt F) arg3.view.ty) (t : Fin (k0_t5_loop k).trips) (acc : FVec F S72x128 .f32) :
    tripR_k0_t5 (F := F) 𝒱 c bd arg0 harg0 arg1 harg1 arg2 harg2 arg3 harg3 k X U t acc
      = k0_pay7 acc (View.readAt (Elt F) arg3.view (Rect.unit (s := S72x72x128) (k0_off7 k t) S1x1x128.size (k0_off7_inb k t)).toLoadRect U)
          (View.readAt (Elt F) arg1.view (Rect.unit (s := S72x72x128) (k0_off8 k t) S1x72x128.size (k0_off8_inb k t)).toLoadRect X) := by
  unfold tripR_k0_t5 trip_k0_t5
  rfl

/-- Row `i` of what is left of the identity matrix after `n` trips. -/
theorem minus (k : Fin k0_t4_loop.trips) (X : BufTy.Contents (Elt F) arg1.view.ty) (U : BufTy.Contents (Elt F) arg3.view.ty) (u : Fin 128 → ℕ → ℕ → F .f32)
    (hu : ∀ (i j : Fin 72) (l : Fin 128), arg3.view.read (Elt F) U (ix3 i j l) = u l i.val j.val)
    (hx : ∀ (i j : Fin 72) (l : Fin 128), i.val < k.val → arg1.view.read (Elt F) X (ix3 i j l) = lowerInv (u l) i.val j.val)
    (n : ℕ) (hn : n ≤ (k0_t5_loop k).trips) (j : Fin 72) (l : Fin 128) :
    st_k0_t5 (F := F) 𝒱 c bd arg0 harg0 arg1 harg1 arg2 harg2 arg3 harg3 k X U (k0_pay6 (F := F) k) n (ix2 j l) = residue (u l) n k.val j.val := by
  have hk : k.val < 72 := lt_of_lt_of_eq k.isLt trips4
  have ht := trips5 k
  induction n generalizing j l with
  | zero => exact pay6_apply k j l
  | succ n ih =>
    have hs := st_k0_t5_succ (F := F) 𝒱 c bd arg0 harg0 arg1 harg1 arg2 harg2 arg3 harg3 k X U (k0_pay6 (F := F) k) ⟨n, hn⟩
    dsimp only at hs
    rw [hs, trip5, pay7_apply, ih (by omega), read_entry _ _ _ (⟨n, by omega⟩ : Fin 72) (⟨k.val, hk⟩ : Fin 72) (off7 k _), read_row _ _ _ (⟨n, by omega⟩ : Fin 72) (off8 k _), hu, hx _ _ _ (by show n < k.val; omega)]
    rfl

/-- The rows of the inverse before step `k`. -/
def Inverted (x : Vec F S72x72x128 .f32) (k : ℕ) (y : Vec F S72x72x128 .f32) : Prop :=
  ∀ (i j : Fin 72) (l : Fin 128), i.val < k → y (ix3 i j l) = lowerInv (upper (lane x l)) i.val j.val

/-- The inverse before step `k`, the factor as it was found. -/
abbrev Inv4 (f₀ : BufTy.Contents (Elt F) arg0.view.ty) (k : ℕ) : sProp (MT nD τ sig Unit (Elt F) ℕ (UR sig nD τ) ℕ) :=
  iprop(∃ fx fa fu, (arg0.view.loc (c : Thread nD τ) ↦[arg0.view.set]{fullShare} f₀) ∗ (arg1.view.loc (c : Thread nD τ) ↦[arg1.view.set]{fullShare} fx)
    ∗ (arg2.view.loc (c : Thread nD τ) ↦[arg2.view.set]{fullShare} fa) ∗ (arg3.view.loc (c : Thread nD τ) ↦[arg3.view.set]{fullShare} fu)
    ∗ ⌜Factored (arg0.view.read (Elt F) f₀) k0_t1_loop.trips (arg2.view.read (Elt F) fa) (arg3.view.read (Elt F) fu)⌝
    ∗ ⌜Inverted (arg0.view.read (Elt F) f₀) k (arg1.view.read (Elt F) fx)⌝)

theorem step4 (E : Set ℕ) (f₀ : BufTy.Contents (Elt F) arg0.view.ty) (k : Fin k0_t4_loop.trips) :
    Inv4 c arg0 arg1 arg2 arg3 f₀ k.val
      ⊢ wp frame (wpE (defs₀ (F := F)) 𝒱 (c : Thread nD τ) bd) E (k0_t4_body (F := F) arg0 harg0 arg1 harg1 arg2 harg2 arg3 harg3 k ())
          (fun _ => Inv4 c arg0 arg1 arg2 arg3 f₀ (k.val + 1)) := by
  unfold k0_t4_body
  iintro ⟨%fx, %fa, %fu, H0, HX, HA, HU, %hf, %hx⟩
  sl_exec
  sl_step
  iexists _; iexists _; iexists _
  isplitl [H0]; · iexact H0
  isplitl [HX]; · iexact HX
  isplitl [HA]; · iexact HA
  isplitl [HU]; · iexact HU
  isplitr
  · ipureintro; exact hf
  ipureintro
  have hk : k.val < 72 := lt_of_lt_of_eq k.isLt trips4
  let r : Fin 72 := ⟨k.val, hk⟩
  have hu : ∀ (i j : Fin 72) (l : Fin 128), arg3.view.read (Elt F) fu (ix3 i j l) = upper (lane (arg0.view.read (Elt F) f₀) l) i.val j.val := fun i j l =>
    hf.2 i j l (lt_of_lt_of_eq i.isLt trips1.symm)
  intro i j l hi
  by_cases hik : i.val = k.val
  · obtain rfl : i = r := Fin.ext hik
    rw [write_row _ _ _ _ _ r (off12 k), pay9_apply, read_entry _ _ _ r r (off11 k), hu]
    refine congrArg (FloatOps.divf · _) ((minus (F := F) 𝒱 c bd arg0 harg0 arg1 harg1 arg2 harg2 arg3 harg3 k fx fu (fun l => upper (lane (arg0.view.read (Elt F) f₀) l)) hu hx _ le_rfl j l).trans ?_)
    rw [trips5]
  · rw [write_row_ne _ _ _ _ _ k.val (off12 k) i hik]
    exact hx i j l (by omega)

set_option warn.classDefReducibility false in
/-- The substitution by its invariant. -/
@[sl_loop] def loop4 (E : Set ℕ) (f₀ : BufTy.Contents (Elt F) arg0.view.ty) : LoopInvTy_k0_t4 (F := F) Unit ℕ (UR sig nD τ) ℕ 𝒱 c bd E arg0 harg0 arg1 harg1 arg2 harg2 arg3 harg3 where
  inv k _ := Inv4 c arg0 arg1 arg2 arg3 f₀ k
  step k acc := step4 𝒱 c bd arg0 harg0 arg1 harg1 arg2 harg2 arg3 harg3 E f₀ k

end Cert.InvertIdeal.Run

end
-- ==== Proof.InvertFrame.lean ====
module
public import proofs.«01_k».proof.Proof.InvertRun
public import Idealize.ShloMosaic.Lib.Claim

/-! The inverse kernel's body by its two loops, and the run of the whole program: the pipeline leaves every matrix's inverse in its result. -/

@[expose] public section

set_option maxRecDepth 16384

noncomputable section

namespace Cert.InvertIdeal.Run

open Cert.InvertIdeal Cert.InvertIdeal.Gen RSvd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body: the matrices stay, the result is their inverses, the two work arrays are left at some contents. -/
theorem body (c : Dev nD) (E : Set ℕ) (arg0 : Memref sig .tc .vmem S72x72x128 .f32) (harg0 : arg0.IsWhole) (arg1 : Memref sig .tc .vmem S72x72x128 .f32) (harg1 : arg1.IsWhole) (arg2 : Memref sig .tc .vmem S72x72x128 .f32) (harg2 : arg2.IsWhole) (arg3 : Memref sig .tc .vmem S72x72x128 .f32) (harg3 : arg3.IsWhole)
    (f0 : BufTy.Contents (Elt F) arg0.view.ty) (f1 : BufTy.Contents (Elt F) arg1.view.ty) (f2 : BufTy.Contents (Elt F) arg2.view.ty) (f3 : BufTy.Contents (Elt F) arg3.view.ty) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2) ∗ (arg3.view.loc (c : Thread nD τ) ↦[arg3.view.set]{fullShare} f3))
      ⊢ (wp frame (wpE (defs₀ (F := F)) Variants.none (c : Thread nD τ) none) E (cc0_inv_cholesky (F := F) arg0 harg0 arg1 harg1 arg2 harg2 arg3 harg3)
          (fun _ => iprop((arg0.view.loc (c : Thread nD τ) ↦[arg0.view.set]{fullShare} f0)
            ∗ owns (c : Thread nD τ) arg1 fullShare (inverses (arg0.view.read (Elt F) f0))
            ∗ (∃ d, owns (c : Thread nD τ) arg2 fullShare d) ∗ (∃ d, owns (c : Thread nD τ) arg3 fullShare d))) : sProp (MT nD τ sig Unit (Elt F) ℕ (UR sig nD τ) ℕ)) := by
  rw [cc0_inv_cholesky_eq_skeleton]
  unfold cc0_inv_cholesky_skel
  have h1 : Factored (arg0.view.read (Elt F) f0) 0 (arg2.view.read (Elt F) (arg2.view.writes (Elt F) arg2.view.junk
      [⟨Rect.unit ![0, 0, 0] S72x72x128.size inb_S72x72x128_S72x72x128_0_0_0,
        k0_pay1 (View.readAt (Elt F) arg0.view (Rect.unit (s := S72x72x128) ![0, 0, 0] S72x72x128.size inb_S72x72x128_S72x72x128_0_0_0).toLoadRect f0)⟩]))
      (arg3.view.read (Elt F) f3) := by
    refine ⟨fun i j l _ => ?_, fun i j l h => absurd h (Nat.not_lt_zero _)⟩
    refine (View.read_writes_cons_unit_of_mem arg2.view _ _ _ _ _ (ix3 i j l) rfl fun a => ?_).trans ?_
    · match a with
      | ⟨0, _⟩ => exact (Nat.zero_add _).symm
      | ⟨1, _⟩ => exact (Nat.zero_add _).symm
      | ⟨2, _⟩ => exact (Nat.zero_add _).symm
    rw [pay1_apply]
    refine Eq.trans (congrArg (arg0.view.read (Elt F) f0) (eq_ix3 _ i j l ?_ ?_ ?_)) (lane_apply _ i j l).symm
    all_goals exact (ValueKit.rect_emb_unit_val _ _ _ _ _).trans (Nat.zero_add _)
  have h4 : Inverted (arg0.view.read (Elt F) f0) 0 (arg1.view.read (Elt F) f1) := fun i j l h => absurd h (Nat.not_lt_zero _)
  iintro ⟨H0, H1, H2, H3⟩
  sl_exec
  sl_step
  have h : arg1.view.read (Elt F) fxL2 = inverses (arg0.view.read (Elt F) f0) := funext fun y =>
    (congrArg (arg1.view.read (Elt F) fxL2) (eq_ix3 y (y 0) (y 1) (y 2) rfl rfl rfl)).trans (hL9 _ _ _ (lt_of_lt_of_eq (y 0).isLt trips4.symm))
  isplitl [H0]; · iexact H0
  isplitl [H1]
  · unfold owns; iexists _; isplitr
    swap; · iexact H1
    ipureintro; exact h
  isplitl [H2]
  · iexists _; unfold owns; iexists _; isplitr
    swap; · iexact H2
    ipureintro; rfl
  iexists _; unfold owns; iexists _; isplitr
  swap; · iexact H3
  ipureintro; rfl

variable (m : (ℓ : Loc nD τ sig) → Buf (Elt F) ℓ) (ρ : Dev nD → PrngReg)

/-! ## The pipeline's proof data -/

/-- The pipeline's data: the matrices stay as found, the result holds their inverses. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => inverses (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = inverses (iblk m c 0 t) := by dsimp only [dats]

theorem before0 (c : Dev nD) (t : Fin cfg0.N) (d) : (dats m 0 c).before 0 t d = iblk m c 0 t :=
  before0_0_of m (dats m 0 c) (A_eq m c 0) (after0 m c) t d

/-- The invariant with the two work arrays owned at some contents. -/
theorem work (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]

/-! ## The body obligation -/

abbrev ms0 (t : Fin cfg0.N) : Memref sig .tc .vmem S72x72x128 .f32 := win0_0.stage (cfg0.slots t 0)
abbrev ms1 (t : Fin cfg0.N) : Memref sig .tc .vmem S72x72x128 .f32 := win0_1.stage (cfg0.slots t 1)

/-- What the body is called with, … -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- … and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1]
  rw [show (dats m 0 c).Φ t.castSucc = Pipeline.ΦA spec0 c from rfl, work]
  unfold owns
  iintro ⟨⟨⟨⟨%e2, %f2, -, H2⟩, ⟨%e3, %f3, -, H3⟩⟩, Hg⟩, Ho, ⟨%d0, %f0, %hf0, H0⟩, ⟨%d1, %f1, -, H1⟩⟩
  rw [← hf0]
  have hb := body (F := F) c Set.univ (ms0 t) (hstage0_0 0) (ms1 t) (hstage0_1 0) (Memref.whole cc0_scratch0) (Memref.isWhole_whole _) (Memref.whole cc0_scratch1) (Memref.isWhole_whole _) f0 f1 f2 f3
  unfold owns at hb
  iapply (wp_wand_r frame (wpE (defs₀ (F := F)) Variants.none c none) Set.univ)
  isplitl [H0 H1 H2 H3]
  · iapply hb
    isplitl [H0]; · iexact H0
    isplitl [H1]; · iexact H1
    isplitl [H2]; · iexact H2
    iexact H3
  iintro %a ⟨H0, H1, H2, H3⟩
  isplitl [H2 H3 Hg]
  · isplitl [H2 H3]
    · isplitl [H2]; · iexact H2
      iexact H3
    iexact Hg
  isplitl [Ho]; · iexact Ho
  isplitl [H0]
  · iexists _; isplitr
    swap; · iexact H0
    ipureintro; rfl
  iexact H1

/-- The body table's row at point `t` is the body. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
/-- The run: the arrays as the data say, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim of the program, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.InvertIdeal.Run

end
-- ==== Proof.InvertBits.lean ====
module
public import proofs.«01_k».proof.Proof.InvertFrame
public import proofs.«01_k».proof.Proof.Gen.Invert.Frame

/-! The inverse kernel as written: its program is the idealized one, word for word, so the frame claim is the same theorem at the machine's values. -/

@[expose] public section

noncomputable section

namespace Cert.Invert.Run

open Cert.Invert Cert.Invert.Gen
open Idealize.ShloMosaic Idealize.ShloMosaic.TcCoe
open Idealize.SL.Sem

/-- The two body tables have the same body. -/
theorem table : @Cert.InvertIdeal.defs₀ Bits _ _ = @defs₀ Bits _ _ := by
  unfold Cert.InvertIdeal.defs₀ defs₀
  refine congrArg Defs.onTc (funext fun l => funext fun ts => ?_)
  match l, ts with
  | 0, (t, s) => rfl

theorem whole : @Cert.InvertIdeal.defs Bits _ _ = @defs Bits _ _ :=
  congrArg (Pipeline.defs (pcfgs (F := Bits))) table

/-- The frame claim of the kernel as written. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0) := by
  rw [← whole]
  exact Cert.InvertIdeal.Run.frame (F := Bits) m ρ

end Cert.Invert.Run

end
-- ==== Proof.InvertArray.lean ====
module
public import proofs.«01_k».proof.Proof.InvertFrame
public import proofs.«01_k».proof.Proof.Spec

/-!
What the result array of the inverse kernel's program holds after the run, in terms of the argument.
-/

@[expose] public section

set_option maxRecDepth 65536

noncomputable section

namespace Cert.InvertIdeal.Arr

open Cert.InvertIdeal Cert.InvertIdeal.Gen Cert.InvertIdeal.Run Idealize.ShloMosaic Idealize.ShloMosaic.TcCoe Idealize.SL.Sem RSvd
open Idealize.ShloMosaic.Pipeline (Dat)

variable (m : (ℓ : Loc nD τ sig) → Buf (Elt Ideal) ℓ) (ρ : Dev nD → PrngReg) (c : Dev nD)

abbrev gg : Vec Ideal S60x72x72 .f32 := m ((c : Thread nD τ).loc main_arg0)

/-- The one grid point. -/
abbrev pt : Fin cfg0.N := ⟨0, by have h : cfg0.N = 1 := N_0; omega⟩

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0, 0] := (by decide +kernel : ∀ t : Fin grid0.N, win0_1.index t = ![0, 0, 0])

/-- The place of matrix `b` in the padded stack. -/
abbrev at128 (b : Fin 60) : Fin 128 := ⟨b.val, by omega⟩

/-- The stack the host built: matrix `b` lies along the last axis, at `b`. -/
theorem host_in (b : Fin 60) (i j : Fin 72) : V m c main_v8 (ix3 i j (at128 b)) = gg m c (ix3 b i j) := by
  show StableHlo.after hostOps0 (fun b => m (c, b)) (Proc.devRef .tc main_v8) (ix3 i j (at128 b)) = _
  entry_read
  pointwise

theorem in0 (b : Fin 60) (i j : Fin 72) : iblk m c 0 pt (ix3 i j (at128 b)) = gg m c (ix3 b i j) :=
  (congrArg (V m c main_v8) (at_whole _ (idx0 pt) i j (at128 b) rfl rfl rfl)).trans (host_in m c b i j)

theorem idx_inj : ∀ t t' : Fin cfg0.N, win0_1.index t = win0_1.index t' → t = t' :=
  (by decide +kernel : ∀ t t' : Fin grid0.N, win0_1.index t = win0_1.index t' → t = t')

/-- The pipeline's result is the block its one grid point wrote. -/
theorem block (y : S72x72x128.Idx) : ((cfg0.win 1).blk pt).view.read (Elt Ideal) ((dats m 0 c).arrAt 1 cfg0.N) y = inverses (iblk m c 0 pt) y := by
  have h := (dats m 0 c).read_blk_arrAt_eq_flushed 1 (fun t t' _ _ hne => (cfg0.win 1).disjoint_blk fun h => hne (idx_inj t t' h)) cfg0.N pt pt.isLt (flush0_1 _)
  have h' : (dats m 0 c).flushed 1 pt = inverses (iblk m c 0 pt) := by
    show (cfg0.win 1).cut (grid0.coords pt) ((dats m 0 c).after 1 pt) = _
    rw [after1]; rfl
  exact congrFun (h.trans h') y

theorem pipe_array (b : Fin 60) (i j : Fin 72) :
    (dats m 0 c).arrAt 1 cfg0.N (ix3 i j (at128 b)) = lowerInv (F := Ideal) (upper (F := Ideal) fun i j => gg m c (ix3 b (Fin.ofNat 72 i) (Fin.ofNat 72 j))) i.val j.val := by
  refine Eq.trans (congrArg ((dats m 0 c).arrAt 1 cfg0.N) (at_whole _ (idx1 pt) i j (at128 b) rfl rfl rfl).symm) ((block m c (ix3 i j (at128 b))).trans ?_)
  exact congrArg (fun g => lowerInv (F := Ideal) (upper (F := Ideal) g) i.val j.val) (funext fun i => funext fun j => in0 m c b _ _)

theorem arrays_inj : Function.Injective (Pipeline.arrRef spec0) := by decide

/-- The program's result: the entries of the inverse factor. -/
theorem x_array (b : Fin 60) (i j : Fin 72) :
    Pipeline.afterTail₀ cfgs (dats m) 0 (V0 m) [hostOps1] c main_v11 (ix3 b i j)
      = lowerInv (F := Ideal) (upper (F := Ideal) fun i j => gg m c (ix3 b (Fin.ofNat 72 i) (Fin.ofNat 72 j))) i.val j.val := by
  refine Eq.trans ?_ (pipe_array m c b i j)
  show StableHlo.after hostOps1 (Pipeline.withArrays spec0 c (V0 m c) fun w => (dats m 0 c).arrAt w cfg0.N) (Proc.devRef .tc main_v11) (ix3 b i j) = _
  entry_read
  pointwise
  have h9 := Pipeline.withArrays_arr spec0 arrays_inj c (V0 m c) (fun w => (dats m 0 c).arrAt w cfg0.N) 1
  exact congrFun h9 _

/-- The run with the result named. -/
theorem run_array : θ_run defs (onTc (τ := τ) (main (F := Ideal))) ⟨m, fun _ => 0, ρ⟩ fun r => ∀ c : Dev nD,
      r.2.mem ((c : Thread nD τ).loc main_v11) = Pipeline.afterTail₀ cfgs (dats m) 0 (V0 m) [hostOps1] c main_v11
      ∧ r.2.mem ((c : Thread nD τ).loc main_arg0) = m ((c : Thread nD τ).loc main_arg0) :=
  (θ_run defs _ _).mono (fun r h c => ⟨(h c).2 main_v11 (Pipeline.mem_restRefs_of main_v11 (by decide) (by decide)),
    ((h c).2 main_arg0 (Pipeline.mem_restRefs_of main_arg0 (by decide) (by decide))).trans (W_main_arg0 m (dats m) c)⟩) (run_main m ρ)

end Cert.InvertIdeal.Arr

end
-- ==== Proof.InvertRef.lean ====
module
public import proofs.«01_k».proof.Proof.Spec
public import proofs.«01_k».proof.Proof.InvertSpec
public import proofs.«01_k».proof.Proof.Gen.InvertReferenceIdeal.Value
public import Idealize.ShloMosaic.Lib.Claim
public import Idealize.ShloMosaic.Lib.Pointwise

/-!
What the reference of the inverse kernel computes, in terms of its argument.
-/

@[expose] public section

set_option maxRecDepth 65536

noncomputable section

namespace Cert.InvertReferenceIdeal.Arr

open Cert.InvertReferenceIdeal Cert.InvertReferenceIdeal.Gen Idealize.ShloMosaic Idealize.ShloMosaic.TcCoe Idealize.SL.Sem RSvd
open Idealize.ShloMosaic.Pipeline (Dat)
open scoped BigOperators

theorem trips1 : k0_t1_loop.trips = 72 := by decide +kernel
theorem trips2 : k0_t2_loop.trips = 72 := by decide +kernel

/-! ## The masks -/

theorem word : ∀ k i : Fin 72, (BitVec.ofNat 32 i.val = Scf.iv 0#32 1#32 k.val) ↔ i.val = k.val := by decide +kernel

theorem differ : ∀ i j : Fin 72, (BitVec.ofNat 32 i.val = BitVec.ofNat 32 j.val) ↔ i.val = j.val := by decide +kernel

/-- Choosing by "the coordinate is `k`". -/
theorem choose (k : ℕ) (hk : k < 72) (i : Fin 72) (x y : EReal) :
    Scalar.select (IntOp.cmpi .eq (BitVec.ofNat 32 i.val) (Scf.iv 0#32 1#32 k)) x y = if i.val = k then x else y := by
  by_cases h : i.val = k
  · subst h
    have hw := beq_iff_eq.2 ((word i i).2 rfl)
    simp only [Scalar.select, IntOp.cmpi, hw, if_true]
    rfl
  · have hw := beq_eq_false_iff_ne.2 (mt (word ⟨k, hk⟩ i).1 h)
    simp only [Scalar.select, IntOp.cmpi, hw, h, if_false]
    rfl

/-- A sum over such a choice has one term. -/
theorem pick (k : ℕ) (r : Fin 72) (hr : r.val = k) (f : Fin 72 → EReal) :
    ∑ x : Fin 72, Scalar.select (IntOp.cmpi .eq (BitVec.ofNat 32 x.val) (Scf.iv 0#32 1#32 k)) (f x) 0 = f r := by
  subst hr
  simp only [choose r.val r.isLt]
  rw [Finset.sum_eq_single r (fun x _ hx => if_neg fun h => hx (Fin.ext h)) (fun h => absurd (Finset.mem_univ r) h), if_pos rfl]

/-! ## The values of one trip -/

theorem pay2_apply (k : Fin k0_t1_loop.trips) (a : Vec Ideal S60x72x72 .f32) (r : Fin 72) (hr : r.val = k.val) (b : Fin 60) (j : Fin 72) :
    k0_pay2 (F := Ideal) k a (ix3 b 0 j) = FloatOps.mulf (a (ix3 b r j)) (FloatOps.rsqrt (a (ix3 b r r))) := by
  pointwise [k0_pay2]
  simp only [pick k.val r hr]

theorem pay7_apply (u : FVec Ideal S60x72x72 .f32) (k : Fin k0_t2_loop.trips) (r : Fin 72) (hr : r.val = k.val) (b : Fin 60) (i : Fin 72) :
    k0_pay7 (F := Ideal) u k (ix3 b i 0) = u (ix3 b r i) := by
  pointwise [k0_pay7]
  exact pick k.val r hr fun x => u (ix3 b x i)

theorem pay8_apply (u : FVec Ideal S60x72x72 .f32) (k : Fin k0_t2_loop.trips) (a : FVec Ideal S60x72x72 .f32) (r : Fin 72) (hr : r.val = k.val) (b : Fin 60) (j : Fin 72) :
    k0_pay8 (F := Ideal) u k a (ix3 b 0 j) = FloatOps.divf (a (ix3 b r j)) (u (ix3 b r r)) := by
  pointwise [k0_pay8]
  simp only [pick k.val r hr, pay7_apply u k r hr]

theorem pay3_apply (k : Fin k0_t1_loop.trips) (a : Vec Ideal S60x72x72 .f32) (b : Fin 60) (i j : Fin 72) :
    k0_pay3 (F := Ideal) k a (ix3 b i j) = a (ix3 b i j) - k0_pay2 (F := Ideal) k a (ix3 b 0 i) * k0_pay2 (F := Ideal) k a (ix3 b 0 j) := by
  pointwise [k0_pay3]

theorem pay4_apply (k : Fin k0_t1_loop.trips) (a : Vec Ideal S60x72x72 .f32) (u : FVec Ideal S60x72x72 .f32) (b : Fin 60) (i j : Fin 72) :
    k0_pay4 (F := Ideal) k a u (ix3 b i j) = if i.val = k.val then k0_pay2 (F := Ideal) k a (ix3 b 0 j) else u (ix3 b i j) := by
  pointwise [k0_pay4]
  exact choose k.val (lt_of_lt_of_eq k.isLt trips1) i _ _

theorem pay5_apply (b : Fin 60) (i j : Fin 72) :
    k0_pay5 (F := Ideal) (ix3 b i j) = unit i.val j.val := by
  pointwise [k0_pay5, unit]
  by_cases h : i.val = j.val
  · simp [Scalar.select, IntOp.cmpi, h]
  · have hw : (BitVec.ofNat 32 i.val == BitVec.ofNat 32 j.val) = false := beq_eq_false_iff_ne.2 fun e => h ((differ i j).1 e)
    simp only [Scalar.select, IntOp.cmpi, hw, h, if_false]
    rfl

theorem pay9_apply (u : FVec Ideal S60x72x72 .f32) (k : Fin k0_t2_loop.trips) (a : FVec Ideal S60x72x72 .f32) (b : Fin 60) (i j : Fin 72) :
    k0_pay9 (F := Ideal) u k a (ix3 b i j) = a (ix3 b i j) - k0_pay7 (F := Ideal) u k (ix3 b i 0) * k0_pay8 (F := Ideal) u k a (ix3 b 0 j) := by
  pointwise [k0_pay9]

theorem pay10_apply (u : FVec Ideal S60x72x72 .f32) (k : Fin k0_t2_loop.trips) (a x : FVec Ideal S60x72x72 .f32) (b : Fin 60) (i j : Fin 72) :
    k0_pay10 (F := Ideal) u k a x (ix3 b i j) = if i.val = k.val then k0_pay8 (F := Ideal) u k a (ix3 b 0 j) else x (ix3 b i j) := by
  pointwise [k0_pay10]
  exact choose k.val (lt_of_lt_of_eq k.isLt trips2) i _ _

/-! ## The two loops -/

/-- Only the entries below `n` of the factor count. -/
theorem residue_congr {u v : ℕ → ℕ → EReal} {n : ℕ} (h : ∀ i j, i < n → j < n → u i j = v i j) :
    ∀ m, m ≤ n → ∀ i j, i < n → residue (F := Ideal) u m i j = residue (F := Ideal) v m i j
  | 0, _, _, _, _ => rfl
  | m + 1, hm, i, j, hi => by
    have hlt : m < n := hm
    unfold residue
    rw [residue_congr h m hlt.le i j hi, residue_congr h m hlt.le m j hlt, h m i hlt hi, h m m hlt hlt]

theorem lowerInv_congr {u v : ℕ → ℕ → EReal} {n : ℕ} (h : ∀ i j, i < n → j < n → u i j = v i j) {i j : ℕ} (hi : i < n) :
    lowerInv (F := Ideal) u i j = lowerInv (F := Ideal) v i j := by
  unfold lowerInv
  rw [residue_congr h i hi.le i j hi, h i i hi hi]

/-- What holds at first and is kept by every trip holds at the end. -/
theorem fold_inv {σ : Type} : ∀ {n : ℕ} (g : Fin n → σ → σ) (P : ℕ → σ → Prop) (a : σ), P 0 a → (∀ (k : Fin n) (a : σ), P k.val a → P (k.val + 1) (g k a)) → P n (Scf.fold g a) := by
  intro n
  induction n with
  | zero => intro g P a h _; rw [Scf.fold_eq]; exact h
  | succ n ih =>
    intro g P a h hs
    have := ih (fun k => g k.succ) (fun k => P (k + 1)) (g 0 a) (hs 0 a h) (fun k a hk => hs k.succ a hk)
    rw [Scf.fold_eq] at this ⊢
    rw [List.finRange_succ, List.foldl_cons, List.foldl_map]
    exact this

/-- Matrix `b` of an array. -/
def mat (g : Vec Ideal S60x72x72 .f32) (b : Fin 60) (i j : ℕ) : EReal := g (ix3 b (Fin.ofNat 72 i) (Fin.ofNat 72 j))

theorem mat_apply (g : Vec Ideal S60x72x72 .f32) (b : Fin 60) (i j : Fin 72) : mat g b i.val j.val = g (ix3 b i j) := by
  unfold mat; rw [ofNat_val, ofNat_val]

/-- The factorisation. -/
def factor (g : Vec Ideal S60x72x72 .f32) : Vec Ideal S60x72x72 .f32 × FVec Ideal S60x72x72 .f32 :=
  Scf.fold (fun k acc => (k0_pay3 (F := Ideal) k acc.1, k0_pay4 (F := Ideal) k acc.1 acc.2)) (g, k0_pay1 (F := Ideal))

/-- The substitution. -/
def solve (u : FVec Ideal S60x72x72 .f32) : FVec Ideal S60x72x72 .f32 × FVec Ideal S60x72x72 .f32 :=
  Scf.fold (fun k acc => (k0_pay9 (F := Ideal) u k acc.1, k0_pay10 (F := Ideal) u k acc.1 acc.2)) (k0_pay5 (F := Ideal), k0_pay6 (F := Ideal))

theorem factor_apply (g : Vec Ideal S60x72x72 .f32) (b : Fin 60) (i j : Fin 72) : (factor g).2 (ix3 b i j) = upper (F := Ideal) (mat g b) i.val j.val := by
  have h := fold_inv (fun k acc => (k0_pay3 (F := Ideal) k acc.1, k0_pay4 (F := Ideal) k acc.1 acc.2))
    (fun k (acc : Vec Ideal S60x72x72 .f32 × FVec Ideal S60x72x72 .f32) => (∀ (b : Fin 60) (i j : Fin 72), acc.1 (ix3 b i j) = left (F := Ideal) (mat g b) k i.val j.val)
      ∧ ∀ (b : Fin 60) (i j : Fin 72), i.val < k → acc.2 (ix3 b i j) = upper (F := Ideal) (mat g b) i.val j.val)
    (g, k0_pay1 (F := Ideal)) ⟨fun b i j => (mat_apply g b i j).symm, fun b i j h => absurd h (Nat.not_lt_zero _)⟩ ?_
  · exact h.2 b i j (lt_of_lt_of_eq i.isLt trips1.symm)
  · rintro k ⟨a, u⟩ ⟨ha, hu⟩
    dsimp only at ha hu
    have hk : k.val < 72 := lt_of_lt_of_eq k.isLt trips1
    have hrow : ∀ (b : Fin 60) (j : Fin 72), k0_pay2 (F := Ideal) k a (ix3 b 0 j) = upper (F := Ideal) (mat g b) k.val j.val := fun b j => by
      rw [pay2_apply k a ⟨k.val, hk⟩ rfl, ha, ha]; rfl
    refine ⟨fun b i j => ?_, fun b i j hi => ?_⟩
    · refine (pay3_apply k a b i j).trans ?_
      rw [ha, hrow, hrow, mul_comm]; rfl
    · refine (pay4_apply k a u b i j).trans ?_
      by_cases hik : i.val = k.val
      · rw [if_pos hik, hrow, hik]
      · rw [if_neg hik]; exact hu b i j (by omega)

theorem solve_apply (u : FVec Ideal S60x72x72 .f32) (b : Fin 60) (i j : Fin 72) : (solve u).2 (ix3 b i j) = lowerInv (F := Ideal) (mat u b) i.val j.val := by
  have h := fold_inv (fun k acc => (k0_pay9 (F := Ideal) u k acc.1, k0_pay10 (F := Ideal) u k acc.1 acc.2))
    (fun k (acc : FVec Ideal S60x72x72 .f32 × FVec Ideal S60x72x72 .f32) => (∀ (b : Fin 60) (i j : Fin 72), acc.1 (ix3 b i j) = residue (F := Ideal) (mat u b) k i.val j.val)
      ∧ ∀ (b : Fin 60) (i j : Fin 72), i.val < k → acc.2 (ix3 b i j) = lowerInv (F := Ideal) (mat u b) i.val j.val)
    (k0_pay5 (F := Ideal), k0_pay6 (F := Ideal)) ⟨fun b i j => pay5_apply b i j, fun b i j h => absurd h (Nat.not_lt_zero _)⟩ ?_
  · exact h.2 b i j (lt_of_lt_of_eq i.isLt trips2.symm)
  · rintro k ⟨a, x⟩ ⟨ha, hx⟩
    dsimp only at ha hx
    have hk : k.val < 72 := lt_of_lt_of_eq k.isLt trips2
    let r : Fin 72 := ⟨k.val, hk⟩
    have hrow : ∀ (b : Fin 60) (j : Fin 72), k0_pay8 (F := Ideal) u k a (ix3 b 0 j) = lowerInv (F := Ideal) (mat u b) k.val j.val := fun b j => by
      rw [pay8_apply u k a r rfl, ha, ← mat_apply u b r r]; rfl
    refine ⟨fun b i j => ?_, fun b i j hi => ?_⟩
    · refine (pay9_apply u k a b i j).trans ?_
      rw [ha, hrow, pay7_apply u k r rfl, ← mat_apply u b r i]; rfl
    · refine (pay10_apply u k a x b i j).trans ?_
      by_cases hik : i.val = k.val
      · rw [if_pos hik, hrow, hik]
      · rw [if_neg hik]; exact hx b i j (by omega)

/-! ## The result -/

variable (m : (ℓ : Loc nD τ sig) → Buf (Elt Ideal) ℓ) (ρ : Dev nD → PrngReg) (c : Dev nD)

abbrev gg : Vec Ideal S60x72x72 .f32 := m ((c : Thread nD τ).loc main_arg0)

/-- The one grid point. -/
abbrev pt : Fin cfg0.N := ⟨0, by have h : cfg0.N = 1 := N_0; omega⟩

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0, 0] := (by decide +kernel : ∀ t : Fin grid0.N, win0_1.index t = ![0, 0, 0])

theorem in0 : iblk m c 0 pt = gg m c := by
  rw [gg, ← V_main_arg0 m c]
  exact stk_ext (B := 60) (m := 72) (n := 72) _ _ fun b r k => congrArg (V m c main_arg0) (at_whole _ (idx0 pt) b r k rfl rfl rfl)

section
variable (arg0 : Memref sig .tc .vmem S60x72x72 .f32) (harg0 : arg0.IsWhole) (arg1 : Memref sig .tc .vmem S60x72x72 .f32) (harg1 : arg1.IsWhole) (x0 : Vec Ideal S60x72x72 .f32)

/-- The matrices, as the body reads them. -/
def read : Vec Ideal S60x72x72 .f32 :=
  View.readAt (Elt Ideal) arg0.view (Rect.unit (s := S60x72x72) ![0, 0, 0] S60x72x72.size inb_S60x72x72_S60x72x72_0_0_0).toLoadRect (harg0.unread x0)

theorem read_eq : read arg0 harg0 x0 = x0 := by
  unfold read
  rw [readAt_whole arg0 harg0]

theorem run_x : (kernelRun0_A (F := Ideal) c arg0 harg0 arg1 harg1 x0).1
    = [⟨Rect.unit (s := S60x72x72) ![0, 0, 0] S60x72x72.size inb_S60x72x72_S60x72x72_0_0_0, (solve (factor (read arg0 harg0 x0)).2).2⟩] := by
  sl_kernel_rfl

theorem out_eq : out0_A_1 (F := Ideal) c arg0 harg0 arg1 harg1 x0 = (solve (factor x0).2).2 := by
  have hz : (![0, 0, 0] : Fin 3 → Nat) = fun _ => 0 := by
    funext d; match d with | ⟨0, _⟩ => rfl | ⟨1, _⟩ => rfl | ⟨2, _⟩ => rfl
  unfold out0_A_1
  rw [View.read_writes_eq_canon _ _ _ (cover0_A_1 c arg0 harg0 arg1 harg1 x0), run_x, View.canon_unit_zero (S := S60x72x72) hz, read_eq]

end

theorem x_array (b : Fin 60) (i j : Fin 72) :
    (dats m 0 c).arrAt 1 cfg0.N (ix3 b i j) = lowerInv (F := Ideal) (upper (F := Ideal) (mat (gg m c) b)) i.val j.val := by
  have h := congrFun (Value.blocks1 m c pt (flush0_1 _)) (ix3 b i j)
  rw [Value.flushed1_A] at h
  refine Eq.trans (congrArg ((dats m 0 c).arrAt 1 cfg0.N) (at_whole _ (idx1 pt) b i j rfl rfl rfl).symm) (h.trans ?_)
  refine Eq.trans (congrFun (out_eq c _ _ _ _ _) (ix3 b i j)) ?_
  rw [in0, solve_apply]
  refine lowerInv_congr (n := 72) (fun i j hi hj => ?_) i.isLt
  exact (mat_apply _ b ⟨i, hi⟩ ⟨j, hj⟩).trans (factor_apply _ b ⟨i, hi⟩ ⟨j, hj⟩)

end Cert.InvertReferenceIdeal.Arr

end
-- ==== Proof.InvertClaim.lean ====
module
public import proofs.«01_k».proof.Defs
public import proofs.«01_k».proof.Proof.InvertArray
public import proofs.«01_k».proof.Proof.InvertRef

/-!
The inverse kernel's program computes what its reference computes, for all arguments.
-/

@[expose] public section

noncomputable section

namespace Cert.Proof

open Idealize.ShloMosaic Idealize.ShloMosaic.TcCoe Idealize.SL.Sem RSvd

theorem algebraic_invert : Cert.algebraic_InvertIdeal_InvertReferenceIdeal := by
  intro m g m' g' _ hargs
  refine ⟨fun c => Pipeline.afterTail₀ Cert.InvertIdeal.cfgs (Cert.InvertIdeal.Run.dats m) 0 (Cert.InvertIdeal.Gen.V0 m) [Cert.InvertIdeal.Gen.hostOps1] c Cert.InvertIdeal.main_v11,
    Cert.InvertIdeal.Arr.run_array m g, (θ_run _ _ _).mono (fun r h c => ?_) (Cert.InvertReferenceIdeal.Value.run_blocks m' g')⟩
  obtain ⟨h0, h⟩ := h c
  refine ⟨h0.trans ?_, h⟩
  refine stk_ext (B := 60) (m := 72) (n := 72) _ _ fun b i j => ?_
  refine (Cert.InvertReferenceIdeal.Arr.x_array m' c b i j).trans (Eq.trans ?_ (Cert.InvertIdeal.Arr.x_array m c b i j).symm)
  exact congrArg (fun g => lowerInv (F := Ideal) (upper (F := Ideal) g) i.val j.val) (funext fun i => funext fun j => congrFun (hargs c) (ix3 b (Fin.ofNat 72 i) (Fin.ofNat 72 j)))

end Cert.Proof

end
-- ==== Proof.lean ====
module

public import proofs.«01_k».proof.Defs
public import proofs.«01_k».proof.Proof.Gen.Sketch.Frame
public import proofs.«01_k».proof.Proof.Gen.Power.Frame
public import proofs.«01_k».proof.Proof.Gen.Project.Frame
public import proofs.«01_k».proof.Proof.SketchClaim
public import proofs.«01_k».proof.Proof.PowerClaim
public import proofs.«01_k».proof.Proof.ProjectClaim
public import proofs.«01_k».proof.Proof.InvertBits
public import proofs.«01_k».proof.Proof.InvertClaim

/-!
All the claims: each of the twelve programs runs to its end with every semaphore at zero; each kernel's program over the reals
is the kernel's program; and over the reals each of the four kernels computes what its reference computes.
-/

@[expose] public section

noncomputable section

namespace Cert.Proof

open Idealize.ShloMosaic Idealize.SL.Sem

/-- The twelve runs, then for each kernel that its two programs are one, and the equation of its results with its reference's. -/
theorem claim : Cert.Claim := ⟨Cert.Sketch.Gen.facts, Cert.SketchIdeal.Gen.facts, Cert.SketchReferenceIdeal.Gen.facts, Cert.Power.Gen.facts, Cert.PowerIdeal.Gen.facts, Cert.PowerReferenceIdeal.Gen.facts, Cert.Project.Gen.facts, Cert.ProjectIdeal.Gen.facts, Cert.ProjectReferenceIdeal.Gen.facts,
  Cert.Invert.Gen.facts, Cert.InvertIdeal.Gen.facts, Cert.InvertReferenceIdeal.Gen.facts,
  fun m ρ _ => Cert.Sketch.Gen.frame m ρ,
  fun m ρ _ => Cert.SketchIdeal.Gen.frame m ρ,
  fun m ρ _ => Cert.SketchReferenceIdeal.Gen.frame m ρ,
  fun m ρ _ => Cert.Power.Gen.frame m ρ,
  fun m ρ _ => Cert.PowerIdeal.Gen.frame m ρ,
  fun m ρ _ => Cert.PowerReferenceIdeal.Gen.frame m ρ,
  fun m ρ _ => Cert.Project.Gen.frame m ρ,
  fun m ρ _ => Cert.ProjectIdeal.Gen.frame m ρ,
  fun m ρ _ => Cert.ProjectReferenceIdeal.Gen.frame m ρ,
  fun m ρ _ => Cert.Invert.Run.frame m ρ,
  fun m ρ _ => Cert.InvertIdeal.Run.frame m ρ,
  fun m ρ _ => Cert.InvertReferenceIdeal.Gen.frame m ρ,
  trivial,
  algebraic_sketch,
  trivial,
  algebraic_power,
  trivial,
  algebraic_project,
  trivial,
  algebraic_invert⟩

end Cert.Proof

end
